-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S50x4096 : Shape := ⟨2, ![50, 4096]⟩
abbrev S50x4096x128 : Shape := ⟨3, ![50, 4096, 128]⟩
abbrev S50x128 : Shape := ⟨2, ![50, 128]⟩
abbrev S7x128x128 : Shape := ⟨3, ![7, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096x50x128 : Shape := ⟨3, ![4096, 50, 128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S50x4096, .i32⟩
  | .hbm, ⟨3, _⟩ => ⟨S50x4096x128, .f32⟩
  | .hbm, ⟨4, _⟩ => ⟨S4096x50x128, .f32⟩
  | .local .scVector .vmem, ⟨0, _⟩ => ⟨S50x128, .i32⟩
  | .local .scVector .vmem, ⟨1, _⟩ => ⟨S7x128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_69_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_38 : BitVec 32 := 0#32
  let c7_i32 : BitVec 32 := 7#32
  let v33 : BitVec 32 := Scalar.addi c0_i32_38 c7_i32
  let c1_i32_39 : BitVec 32 := 1#32
  ⟨c0_i32_38, v33, c1_i32_39⟩
def k0_off2 (k0_t1 : Fin k0_t1_loop.trips) (c0_i32_70 : BitVec 32) : Fin 2 → Nat :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let v64 : BitVec 32 := Scalar.addi v63 c0_i32_70
  let c0_i32_74 : BitVec 32 := 0#32
  ![v64.toNat, 0]
def k0_off3 (i : grid0.Coords) (k0_t1 : Fin k0_t1_loop.trips) (c0_i32_70 : BitVec 32) : Fin 3 → Nat :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let v64 : BitVec 32 := Scalar.addi v63 c0_i32_70
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_80 : BitVec 32 := 0#32
  ![v64.toNat, v2.toNat, 0]
def k0_cond1 (k0_t1 : Fin k0_t1_loop.trips) : BitVec 1 :=
  let c0_i32_38 : BitVec 32 := 0#32
  let c1_i32_39 : BitVec 32 := 1#32
  let arg21 : BitVec 32 := Scf.iv c0_i32_38 c1_i32_39 k0_t1
  let c0_i32_84 : BitVec 32 := 0#32
  let v78 : BitVec 1 := Scalar.cmpi .sgt arg21 c0_i32_84
  let v79 : BitVec 32 := Scalar.extui v78
  let c0_i32_85 : BitVec 32 := 0#32
  let v80 : BitVec 1 := Scalar.cmpi .ne v79 c0_i32_85
  v80

def k0_off4 (i : grid0.Coords) (k0_t1 : Fin k0_t1_loop.trips) : Fin 3 → Nat :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let c0_i32_70 : BitVec 32 := 0#32
  let v64 : BitVec 32 := Scalar.addi v63 c0_i32_70
  let c1_i32_249 : BitVec 32 := 1#32
  let v258 : BitVec 32 := Scalar.subi v64 c1_i32_249
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_253 : BitVec 32 := 0#32
  ![v258.toNat, v2.toNat, 0]
def k0_cond2 (k0_t1 : Fin k0_t1_loop.trips) : BitVec 1 :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let c0_i32_70 : BitVec 32 := 0#32
  let v64 : BitVec 32 := Scalar.addi v63 c0_i32_70
  let c7_i32_257 : BitVec 32 := 7#32
  let v267 : BitVec 32 := Scalar.addi v64 c7_i32_257
  let c1_i32_258 : BitVec 32 := 1#32
  let v268 : BitVec 32 := Scalar.subi v267 c1_i32_258
  let c50_i32_259 : BitVec 32 := 50#32
  let v269 : BitVec 1 := Scalar.cmpi .slt v268 c50_i32_259
  let v270 : BitVec 32 := Scalar.extui v269
  let c0_i32_260 : BitVec 32 := 0#32
  let v271 : BitVec 1 := Scalar.cmpi .ne v270 c0_i32_260
  v271

def k0_off5 (k0_t1 : Fin k0_t1_loop.trips) : Fin 2 → Nat :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let c0_i32_70 : BitVec 32 := 0#32
  let v64 : BitVec 32 := Scalar.addi v63 c0_i32_70
  let c7_i32_261 : BitVec 32 := 7#32
  let v272 : BitVec 32 := Scalar.addi v64 c7_i32_261
  let c1_i32_262 : BitVec 32 := 1#32
  let v273 : BitVec 32 := Scalar.subi v272 c1_i32_262
  let c0_i32_266 : BitVec 32 := 0#32
  ![v273.toNat, 0]
def k0_cond3 (k0_t1 : Fin k0_t1_loop.trips) : BitVec 1 :=
  let c0_i32_38 : BitVec 32 := 0#32
  let c1_i32_39 : BitVec 32 := 1#32
  let arg21 : BitVec 32 := Scf.iv c0_i32_38 c1_i32_39 k0_t1
  let c0_i32_86 : BitVec 32 := 0#32
  let v81 : BitVec 1 := Scalar.cmpi .eq arg21 c0_i32_86
  let v82 : BitVec 32 := Scalar.extui v81
  let c0_i32_87 : BitVec 32 := 0#32
  let v83 : BitVec 1 := Scalar.cmpi .ne v82 c0_i32_87
  v83

def k0_off6 (k0_t1 : Fin k0_t1_loop.trips) : Fin 2 → Nat :=
  let c7_i32_69 : BitVec 32 := 7#32
  let c0_i32_38 : BitVec 32 := 0#32
  let c1_i32_39 : BitVec 32 := 1#32
  let arg21 : BitVec 32 := Scf.iv c0_i32_38 c1_i32_39 k0_t1
  let v63 : BitVec 32 := Scalar.muli c7_i32_69 arg21
  let c0_i32_70 : BitVec 32 := 0#32
  let v64 : BitVec 32 := Scalar.addi v63 c0_i32_70
  let c7_i32_249 : BitVec 32 := 7#32
  let v258 : BitVec 32 := Scalar.addi v64 c7_i32_249
  let c1_i32_250 : BitVec 32 := 1#32
  let v259 : BitVec 32 := Scalar.subi v258 c1_i32_250
  let c0_i32_254 : BitVec 32 := 0#32
  ![v259.toNat, 0]
def k0_off7 (i : grid0.Coords) (k0_t1 : Fin k0_t1_loop.trips) (c1_i32_89 : BitVec 32) : Fin 3 → Nat :=
  let c7_i32_88 : BitVec 32 := 7#32
  let c0_i32_38 : BitVec 32 := 0#32
  let c1_i32_39 : BitVec 32 := 1#32
  let arg21 : BitVec 32 := Scf.iv c0_i32_38 c1_i32_39 k0_t1
  let v84 : BitVec 32 := Scalar.muli c7_i32_88 arg21
  let v85 : BitVec 32 := Scalar.addi v84 c1_i32_89
  let c1_i32_103 : BitVec 32 := 1#32
  let v99 : BitVec 32 := Scalar.subi v85 c1_i32_103
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_107 : BitVec 32 := 0#32
  ![v99.toNat, v2.toNat, 0]
def k0_cond4 (k0_t1 : Fin k0_t1_loop.trips) : BitVec 1 :=
  let c7_i32_88 : BitVec 32 := 7#32
  let c0_i32_38 : BitVec 32 := 0#32
  let c1_i32_39 : BitVec 32 := 1#32
  let arg21 : BitVec 32 := Scf.iv c0_i32_38 c1_i32_39 k0_t1
  let v84 : BitVec 32 := Scalar.muli c7_i32_88 arg21
  let c1_i32_89 : BitVec 32 := 1#32
  let v85 : BitVec 32 := Scalar.addi v84 c1_i32_89
  let c7_i32_111 : BitVec 32 := 7#32
  let v108 : BitVec 32 := Scalar.addi v85 c7_i32_111
  let c1_i32_112 : BitVec 32 := 1#32
  let v109 : BitVec 32 := Scalar.subi v108 c1_i32_112
  let c50_i32 : BitVec 32 := 50#32
  let v110 : BitVec 1 := Scalar.cmpi .slt v109 c50_i32
  let v111 : BitVec 32 := Scalar.extui v110
  let c0_i32_113 : BitVec 32 := 0#32
  let v112 : BitVec 1 := Scalar.cmpi .ne v111 c0_i32_113
  v112

def k0_off8 (k0_t1 : Fin k0_t1_loop.trips) : Fin 2 → Nat :=
  let c7_i32_88 : BitVec 32 := 7#32
  let c0_i32_38 : BitVec 32 := 0#32
  let c1_i32_39 : BitVec 32 := 1#32
  let arg21 : BitVec 32 := Scf.iv c0_i32_38 c1_i32_39 k0_t1
  let v84 : BitVec 32 := Scalar.muli c7_i32_88 arg21
  let c1_i32_89 : BitVec 32 := 1#32
  let v85 : BitVec 32 := Scalar.addi v84 c1_i32_89
  let c7_i32_249 : BitVec 32 := 7#32
  let v258 : BitVec 32 := Scalar.addi v85 c7_i32_249
  let c1_i32_250 : BitVec 32 := 1#32
  let v259 : BitVec 32 := Scalar.subi v258 c1_i32_250
  let c0_i32_254 : BitVec 32 := 0#32
  ![v259.toNat, 0]
def k0_cond5 (k0_t1 : Fin k0_t1_loop.trips) : BitVec 1 :=
  let c7_i32_114 : BitVec 32 := 7#32
  let c0_i32_38 : BitVec 32 := 0#32
  let c1_i32_39 : BitVec 32 := 1#32
  let arg21 : BitVec 32 := Scf.iv c0_i32_38 c1_i32_39 k0_t1
  let v113 : BitVec 32 := Scalar.muli c7_i32_114 arg21
  let c2_i32_115 : BitVec 32 := 2#32
  let v114 : BitVec 32 := Scalar.addi v113 c2_i32_115
  let c7_i32_137 : BitVec 32 := 7#32
  let v137 : BitVec 32 := Scalar.addi v114 c7_i32_137
  let c1_i32_138 : BitVec 32 := 1#32
  let v138 : BitVec 32 := Scalar.subi v137 c1_i32_138
  let c50_i32_139 : BitVec 32 := 50#32
  let v139 : BitVec 1 := Scalar.cmpi .slt v138 c50_i32_139
  let v140 : BitVec 32 := Scalar.extui v139
  let c0_i32_140 : BitVec 32 := 0#32
  let v141 : BitVec 1 := Scalar.cmpi .ne v140 c0_i32_140
  v141

def k0_off9 (k0_t1 : Fin k0_t1_loop.trips) : Fin 2 → Nat :=
  let c7_i32_114 : BitVec 32 := 7#32
  let c0_i32_38 : BitVec 32 := 0#32
  let c1_i32_39 : BitVec 32 := 1#32
  let arg21 : BitVec 32 := Scf.iv c0_i32_38 c1_i32_39 k0_t1
  let v113 : BitVec 32 := Scalar.muli c7_i32_114 arg21
  let c2_i32_115 : BitVec 32 := 2#32
  let v114 : BitVec 32 := Scalar.addi v113 c2_i32_115
  let c7_i32_249 : BitVec 32 := 7#32
  let v258 : BitVec 32 := Scalar.addi v114 c7_i32_249
  let c1_i32_250 : BitVec 32 := 1#32
  let v259 : BitVec 32 := Scalar.subi v258 c1_i32_250
  let c0_i32_254 : BitVec 32 := 0#32
  ![v259.toNat, 0]
def k0_cond6 (k0_t1 : Fin k0_t1_loop.trips) : BitVec 1 :=
  let c7_i32_141 : BitVec 32 := 7#32
  let c0_i32_38 : BitVec 32 := 0#32
  let c1_i32_39 : BitVec 32 := 1#32
  let arg21 : BitVec 32 := Scf.iv c0_i32_38 c1_i32_39 k0_t1
  let v142 : BitVec 32 := Scalar.muli c7_i32_141 arg21
  let c3_i32_142 : BitVec 32 := 3#32
  let v143 : BitVec 32 := Scalar.addi v142 c3_i32_142
  let c7_i32_164 : BitVec 32 := 7#32
  let v166 : BitVec 32 := Scalar.addi v143 c7_i32_164
  let c1_i32_165 : BitVec 32 := 1#32
  let v167 : BitVec 32 := Scalar.subi v166 c1_i32_165
  let c50_i32_166 : BitVec 32 := 50#32
  let v168 : BitVec 1 := Scalar.cmpi .slt v167 c50_i32_166
  let v169 : BitVec 32 := Scalar.extui v168
  let c0_i32_167 : BitVec 32 := 0#32
  let v170 : BitVec 1 := Scalar.cmpi .ne v169 c0_i32_167
  v170

def k0_off10 (k0_t1 : Fin k0_t1_loop.trips) : Fin 2 → Nat :=
  let c7_i32_141 : BitVec 32 := 7#32
  let c0_i32_38 : BitVec 32 := 0#32
  let c1_i32_39 : BitVec 32 := 1#32
  let arg21 : BitVec 32 := Scf.iv c0_i32_38 c1_i32_39 k0_t1
  let v142 : BitVec 32 := Scalar.muli c7_i32_141 arg21
  let c3_i32_142 : BitVec 32 := 3#32
  let v143 : BitVec 32 := Scalar.addi v142 c3_i32_142
  let c7_i32_249 : BitVec 32 := 7#32
  let v258 : BitVec 32 := Scalar.addi v143 c7_i32_249
  let c1_i32_250 : BitVec 32 := 1#32
  let v259 : BitVec 32 := Scalar.subi v258 c1_i32_250
  let c0_i32_254 : BitVec 32 := 0#32
  ![v259.toNat, 0]
def k0_cond7 (k0_t1 : Fin k0_t1_loop.trips) : BitVec 1 :=
  let c7_i32_168 : BitVec 32 := 7#32
  let c0_i32_38 : BitVec 32 := 0#32
  let c1_i32_39 : BitVec 32 := 1#32
  let arg21 : BitVec 32 := Scf.iv c0_i32_38 c1_i32_39 k0_t1
  let v171 : BitVec 32 := Scalar.muli c7_i32_168 arg21
  let c4_i32_169 : BitVec 32 := 4#32
  let v172 : BitVec 32 := Scalar.addi v171 c4_i32_169
  let c7_i32_191 : BitVec 32 := 7#32
  let v195 : BitVec 32 := Scalar.addi v172 c7_i32_191
  let c1_i32_192 : BitVec 32 := 1#32
  let v196 : BitVec 32 := Scalar.subi v195 c1_i32_192
  let c50_i32_193 : BitVec 32 := 50#32
  let v197 : BitVec 1 := Scalar.cmpi .slt v196 c50_i32_193
  let v198 : BitVec 32 := Scalar.extui v197
  let c0_i32_194 : BitVec 32 := 0#32
  let v199 : BitVec 1 := Scalar.cmpi .ne v198 c0_i32_194
  v199

def k0_off11 (k0_t1 : Fin k0_t1_loop.trips) : Fin 2 → Nat :=
  let c7_i32_168 : BitVec 32 := 7#32
  let c0_i32_38 : BitVec 32 := 0#32
  let c1_i32_39 : BitVec 32 := 1#32
  let arg21 : BitVec 32 := Scf.iv c0_i32_38 c1_i32_39 k0_t1
  let v171 : BitVec 32 := Scalar.muli c7_i32_168 arg21
  let c4_i32_169 : BitVec 32 := 4#32
  let v172 : BitVec 32 := Scalar.addi v171 c4_i32_169
  let c7_i32_249 : BitVec 32 := 7#32
  let v258 : BitVec 32 := Scalar.addi v172 c7_i32_249
  let c1_i32_250 : BitVec 32 := 1#32
  let v259 : BitVec 32 := Scalar.subi v258 c1_i32_250
  let c0_i32_254 : BitVec 32 := 0#32
  ![v259.toNat, 0]
def k0_cond8 (k0_t1 : Fin k0_t1_loop.trips) : BitVec 1 :=
  let c7_i32_195 : BitVec 32 := 7#32
  let c0_i32_38 : BitVec 32 := 0#32
  let c1_i32_39 : BitVec 32 := 1#32
  let arg21 : BitVec 32 := Scf.iv c0_i32_38 c1_i32_39 k0_t1
  let v200 : BitVec 32 := Scalar.muli c7_i32_195 arg21
  let c5_i32_196 : BitVec 32 := 5#32
  let v201 : BitVec 32 := Scalar.addi v200 c5_i32_196
  let c7_i32_218 : BitVec 32 := 7#32
  let v224 : BitVec 32 := Scalar.addi v201 c7_i32_218
  let c1_i32_219 : BitVec 32 := 1#32
  let v225 : BitVec 32 := Scalar.subi v224 c1_i32_219
  let c50_i32_220 : BitVec 32 := 50#32
  let v226 : BitVec 1 := Scalar.cmpi .slt v225 c50_i32_220
  let v227 : BitVec 32 := Scalar.extui v226
  let c0_i32_221 : BitVec 32 := 0#32
  let v228 : BitVec 1 := Scalar.cmpi .ne v227 c0_i32_221
  v228

def k0_off12 (k0_t1 : Fin k0_t1_loop.trips) : Fin 2 → Nat :=
  let c7_i32_195 : BitVec 32 := 7#32
  let c0_i32_38 : BitVec 32 := 0#32
  let c1_i32_39 : BitVec 32 := 1#32
  let arg21 : BitVec 32 := Scf.iv c0_i32_38 c1_i32_39 k0_t1
  let v200 : BitVec 32 := Scalar.muli c7_i32_195 arg21
  let c5_i32_196 : BitVec 32 := 5#32
  let v201 : BitVec 32 := Scalar.addi v200 c5_i32_196
  let c7_i32_249 : BitVec 32 := 7#32
  let v258 : BitVec 32 := Scalar.addi v201 c7_i32_249
  let c1_i32_250 : BitVec 32 := 1#32
  let v259 : BitVec 32 := Scalar.subi v258 c1_i32_250
  let c0_i32_254 : BitVec 32 := 0#32
  ![v259.toNat, 0]
def k0_cond9 (k0_t1 : Fin k0_t1_loop.trips) : BitVec 1 :=
  let c7_i32_222 : BitVec 32 := 7#32
  let c0_i32_38 : BitVec 32 := 0#32
  let c1_i32_39 : BitVec 32 := 1#32
  let arg21 : BitVec 32 := Scf.iv c0_i32_38 c1_i32_39 k0_t1
  let v229 : BitVec 32 := Scalar.muli c7_i32_222 arg21
  let c6_i32_223 : BitVec 32 := 6#32
  let v230 : BitVec 32 := Scalar.addi v229 c6_i32_223
  let c7_i32_245 : BitVec 32 := 7#32
  let v253 : BitVec 32 := Scalar.addi v230 c7_i32_245
  let c1_i32_246 : BitVec 32 := 1#32
  let v254 : BitVec 32 := Scalar.subi v253 c1_i32_246
  let c50_i32_247 : BitVec 32 := 50#32
  let v255 : BitVec 1 := Scalar.cmpi .slt v254 c50_i32_247
  let v256 : BitVec 32 := Scalar.extui v255
  let c0_i32_248 : BitVec 32 := 0#32
  let v257 : BitVec 1 := Scalar.cmpi .ne v256 c0_i32_248
  v257

def k0_off13 (k0_t1 : Fin k0_t1_loop.trips) : Fin 2 → Nat :=
  let c7_i32_222 : BitVec 32 := 7#32
  let c0_i32_38 : BitVec 32 := 0#32
  let c1_i32_39 : BitVec 32 := 1#32
  let arg21 : BitVec 32 := Scf.iv c0_i32_38 c1_i32_39 k0_t1
  let v229 : BitVec 32 := Scalar.muli c7_i32_222 arg21
  let c6_i32_223 : BitVec 32 := 6#32
  let v230 : BitVec 32 := Scalar.addi v229 c6_i32_223
  let c7_i32_249 : BitVec 32 := 7#32
  let v258 : BitVec 32 := Scalar.addi v230 c7_i32_249
  let c1_i32_250 : BitVec 32 := 1#32
  let v259 : BitVec 32 := Scalar.subi v258 c1_i32_250
  let c0_i32_254 : BitVec 32 := 0#32
  ![v259.toNat, 0]
def k0_off14 (i : grid0.Coords) : Fin 3 → Nat :=
  let c49_i32_48 : BitVec 32 := 49#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_51 : BitVec 32 := 0#32
  ![49, v2.toNat, 0]
def k0_off15 (i : grid0.Coords) : Fin 3 → Nat :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_57 : BitVec 32 := 0#32
  ![48, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Ideal.Tile.lean ====
/-
  The table lookup on one vector subcore: what its memory regions are, and what each of the four operations of its ring
  — start a gather, wait for it, start a write, wait for it — does to what the subcore holds. Each is stated once, for
  every slot of the ring and every row of the list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state -/

abbrev 𝒱₀ : Variants := Variants.none
abbrev UH : Type := URounds (GSem nD τ sig) ℕ
abbrev UU : Type := UH × Counters

local notation "𝕄" => MT nD τ sig (HIx 1) (Elt F) ℕ UU ℕ

/-! ## The regions -/

/-- The SparseCore and the vector subcore of grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The first of the 128 columns the subcore looks up. -/
abbrev col (L : grid0.Coords) : ℕ := 256 * (L 1).val + 128 * (L 0).val

/-- The whole table, as a gather names it. -/
abbrev tblAt : Memref sig .scVector .hbm S100000x128 .f32 :=
  (Memref.whole main_arg1_scv).slice (Rect.unit (s := S100000x128) ![0, 0] S100000x128.size inb_S100000x128_S100000x128_0_0) (fun _ => rfl)
/-- The slot of the ring at offset `off`. -/
abbrev slotAt (off : Fin 3 → ℕ) (h : ∀ a, off a + S1x128x128.size a ≤ S7x128x128.size a) : Memref sig .scVector .vmem S128x128 .f32 :=
  ((Memref.whole cc0_scratch1).slice (Rect.unit (s := S7x128x128) off S1x128x128.size h) (fun _ => rfl)).squeeze S128x128 squeezes_S1x128x128_S128x128
/-- The row of the fetched list at offset `off`. -/
abbrev rowAt (off : Fin 2 → ℕ) (h : ∀ a, off a + S1x128.size a ≤ S50x128.size a) : Memref sig .scVector .vmem S128 .i32 :=
  ((Memref.whole cc0_scratch0).slice (Rect.unit (s := S50x128) off S1x128.size h) (fun _ => rfl)).squeeze S128 squeezes_S1x128_S128
/-- The block of the result at offset `off`. -/
abbrev outAt (off : Fin 3 → ℕ) (h : ∀ a, off a + S1x128x128.size a ≤ S50x4096x128.size a) : Memref sig .scVector .hbm S128x128 .f32 :=
  ((Memref.whole main_v1_scv).slice (Rect.unit (s := S50x4096x128) off S1x128x128.size h) (fun _ => rfl)).squeeze S128x128 squeezes_S1x128x128_S128x128

/-- The elements of slot `b`; of row `j` of the list; of the 128 columns from `c` of row `j` of the result. -/
def planeSet (b : ℕ) : Finset S7x128x128.Idx := Finset.univ.filter fun x => (x 0).val = b
def rowSet (j : ℕ) : Finset S50x128.Idx := Finset.univ.filter fun x => (x 0).val = j
def blkSet (c j : ℕ) : Finset S50x4096x128.Idx := Finset.univ.filter fun y => (y 0).val = j ∧ c ≤ (y 1).val ∧ (y 1).val < c + 128

theorem mem_planeSet {b : ℕ} {x : S7x128x128.Idx} : x ∈ planeSet b ↔ (x 0).val = b := by simp [planeSet]
theorem mem_rowSet {j : ℕ} {x : S50x128.Idx} : x ∈ rowSet j ↔ (x 0).val = j := by simp [rowSet]
theorem mem_blkSet {c j : ℕ} {y : S50x4096x128.Idx} : y ∈ blkSet c j ↔ (y 0).val = j ∧ c ≤ (y 1).val ∧ (y 1).val < c + 128 := by simp [blkSet]

section Coordinates
variable {off : Fin 3 → ℕ} {h : ∀ a, off a + S1x128x128.size a ≤ S7x128x128.size a}

/-- Where a slot's element `z` sits in the ring. -/
theorem slot_emb (z : S128x128.Idx) : (slotAt off h).view.emb z = (Rect.unit (s := S7x128x128) off S1x128x128.size h).emb (Fin.cons ⟨0, Nat.one_pos⟩ z) := by
  have h1 : (slotAt off h).view.emb z
      = (Rect.unit (s := S7x128x128) off S1x128x128.size h).emb (Shape.reshapeEquiv squeezes_S1x128x128_S128x128.numel_eq z) := rfl
  rw [h1, Shape.reshapeEquiv_cons_one]
/-- Where a block's element `z` sits in the result. -/
theorem out_emb {h : ∀ a, off a + S1x128x128.size a ≤ S50x4096x128.size a} (z : S128x128.Idx) :
    (outAt off h).view.emb z = (Rect.unit (s := S50x4096x128) off S1x128x128.size h).emb (Fin.cons ⟨0, Nat.one_pos⟩ z) := by
  have h1 : (outAt off h).view.emb z
      = (Rect.unit (s := S50x4096x128) off S1x128x128.size h).emb (Shape.reshapeEquiv squeezes_S1x128x128_S128x128.numel_eq z) := rfl
  rw [h1, Shape.reshapeEquiv_cons_one]
/-- Where a row's element `z` sits in the list. -/
theorem row_emb {off : Fin 2 → ℕ} {h : ∀ a, off a + S1x128.size a ≤ S50x128.size a} (z : S128.Idx) :
    (rowAt off h).view.emb z = (Rect.unit (s := S50x128) off S1x128.size h).emb (Fin.cons ⟨0, Nat.one_pos⟩ z) := by
  have h1 : (rowAt off h).view.emb z
      = (Rect.unit (s := S50x128) off S1x128.size h).emb (Shape.reshapeEquiv squeezes_S1x128_S128.numel_eq z) := rfl
  rw [h1, Shape.reshapeEquiv_cons_one]

/-- Its coordinates: the slot, and the element's own two. -/
theorem slot_coords {b : ℕ} (e : off = ![b, 0, 0]) (z : S128x128.Idx) {x : S7x128x128.Idx} (hx : x = (slotAt off h).view.emb z) :
    (x 0).val = b ∧ (x 1).val = (z 0).val ∧ (x 2).val = (z 1).val := by
  subst e; subst hx
  rw [slot_emb]
  refine ⟨?_, ?_, ?_⟩ <;> rw [Rect.emb_apply]
  · show b + 1 * 0 = b; omega
  · show 0 + 1 * (z 0).val = (z 0).val; omega
  · show 0 + 1 * (z 1).val = (z 1).val; omega
/-- Its coordinates: the row, the column counted from the block's first, and the element's second. -/
theorem out_coords {h : ∀ a, off a + S1x128x128.size a ≤ S50x4096x128.size a} {j c : ℕ} (e : off = ![j, c, 0]) (z : S128x128.Idx)
    {y : S50x4096x128.Idx} (hy : y = (outAt off h).view.emb z) :
    (y 0).val = j ∧ (y 1).val = c + (z 0).val ∧ (y 2).val = (z 1).val := by
  subst e; subst hy
  rw [out_emb]
  refine ⟨?_, ?_, ?_⟩ <;> rw [Rect.emb_apply]
  · show j + 1 * 0 = j; omega
  · show c + 1 * (z 0).val = c + (z 0).val; omega
  · show 0 + 1 * (z 1).val = (z 1).val; omega
/-- Its coordinates: the row, and the element's own. -/
theorem row_coords {off : Fin 2 → ℕ} {h : ∀ a, off a + S1x128.size a ≤ S50x128.size a} {j : ℕ} (e : off = ![j, 0]) (z : S128.Idx)
    {x : S50x128.Idx} (hx : x = (rowAt off h).view.emb z) : (x 0).val = j ∧ (x 1).val = (z 0).val := by
  subst e; subst hx
  rw [row_emb]
  refine ⟨?_, ?_⟩ <;> rw [Rect.emb_apply]
  · show j + 1 * 0 = j; omega
  · show 0 + 1 * (z 0).val = (z 0).val; omega

/-- A slot's region is its plane of the ring. -/
theorem slot_set {b : ℕ} (e : off = ![b, 0, 0]) : (slotAt off h).view.set = planeSet b := by
  ext x
  rw [mem_planeSet]
  constructor
  · intro hx
    obtain ⟨z, -, hz⟩ := Finset.mem_map.mp hx
    exact (slot_coords e z hz.symm).1
  · intro hx
    refine Finset.mem_map.mpr ⟨(fun | 0 => x 1 | 1 => x 2 : S128x128.Idx), Finset.mem_univ _, ?_⟩
    obtain ⟨h0, h1, h2⟩ := slot_coords (h := h) e (fun | 0 => x 1 | 1 => x 2 : S128x128.Idx) rfl
    funext a
    match a with
    | 0 => exact Fin.ext (h0.trans hx.symm)
    | 1 => exact Fin.ext h1
    | 2 => exact Fin.ext h2
/-- A row's region is its row of the list. -/
theorem row_set {off : Fin 2 → ℕ} {h : ∀ a, off a + S1x128.size a ≤ S50x128.size a} {j : ℕ} (e : off = ![j, 0]) :
    (rowAt off h).view.set = rowSet j := by
  ext x
  rw [mem_rowSet]
  constructor
  · intro hx
    obtain ⟨z, -, hz⟩ := Finset.mem_map.mp hx
    exact (row_coords e z hz.symm).1
  · intro hx
    refine Finset.mem_map.mpr ⟨(fun | 0 => x 1 : S128.Idx), Finset.mem_univ _, ?_⟩
    obtain ⟨h0, h1⟩ := row_coords (h := h) e (fun | 0 => x 1 : S128.Idx) rfl
    funext a
    match a with
    | 0 => exact Fin.ext (h0.trans hx.symm)
    | 1 => exact Fin.ext h1
/-- A block's region is its columns of its row of the result. -/
theorem out_set {h : ∀ a, off a + S1x128x128.size a ≤ S50x4096x128.size a} {j c : ℕ} (e : off = ![j, c, 0]) :
    (outAt off h).view.set = blkSet c j := by
  ext y
  rw [mem_blkSet]
  constructor
  · intro hy
    obtain ⟨z, -, hz⟩ := Finset.mem_map.mp hy
    obtain ⟨h0, h1, -⟩ := out_coords e z hz.symm
    have hz0 : (z 0).val < 128 := (z 0).isLt
    exact ⟨h0, by omega, by omega⟩
  · rintro ⟨hj, hl, hu⟩
    refine Finset.mem_map.mpr ⟨(fun | 0 => ⟨(y 1).val - c, by show _ < 128; omega⟩ | 1 => y 2 : S128x128.Idx), Finset.mem_univ _, ?_⟩
    obtain ⟨h0, h1, h2⟩ := out_coords (h := h) e (fun | 0 => ⟨(y 1).val - c, by show _ < 128; omega⟩ | 1 => y 2 : S128x128.Idx) rfl
    funext a
    match a with
    | 0 => exact Fin.ext (h0.trans hj.symm)
    | 1 => exact Fin.ext (h1.trans (by show c + ((y 1).val - c) = (y 1).val; omega))
    | 2 => exact Fin.ext h2
end Coordinates

end Cert.KernelIdeal.Lookup

end
-- ==== Proof.Ideal.Ops.lean ====
/-
  The four operations of the ring of slots, each for any slot and any row of the list: starting a gather, waiting for it,
  starting the write of a gathered block to the result, waiting for that.
-/
module

public import proofs.«01_k».proof.Proof.Ideal.Tile

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What one subcore works with: its share of the table and the table's contents, the list it fetched, what the result
    holds before it writes and what it is to hold after. -/
structure Data (F : FTy → Type) where
  q : PosShare TreeShare
  tab : S100000x128.Idx → Elt F .f32
  lst : S50x128.Idx → Elt F .i32
  old : S50x4096x128.Idx → Elt F .f32
  new : S50x4096x128.Idx → Elt F .f32

/-- Every word of the list names a row of the table, and the result is to hold, at row `i` of the list and at the
    subcore's column `c + r`, the row of the table that the list's word `(i, r)` names. -/
structure Data.Good (D : Data F) (c : ℕ) : Prop where
  inb : ∀ i, (D.lst i).toNat < 100000
  val : ∀ (i : S50x128.Idx) (x : S100000x128.Idx) (y : S50x4096x128.Idx), (y 0).val = (i 0).val → (y 1).val = c + (i 1).val →
    (x 0).val = (D.lst i).toNat → (x 1).val = (y 2).val → D.tab x = D.new y

/-- Slot `b` of the ring at contents `f` holds what row `j` of the result is to hold at the columns from `c`. -/
def Holds (new : S50x4096x128.Idx → Elt F .f32) (c b j : ℕ) (f : S7x128x128.Idx → Elt F .f32) : Prop :=
  ∀ (x : S7x128x128.Idx) (y : S50x4096x128.Idx), (x 0).val = b → (y 0).val = j → (y 1).val = c + (x 1).val → (y 2).val = (x 2).val → f x = new y

variable (d : Dev nD) (L : grid0.Coords) (D : Data F)

abbrev tLoc : Loc nD τ sig := (thr d L).loc main_arg1_scv
abbrev lLoc : Loc nD τ sig := (thr d L).loc cc0_scratch0
abbrev rLoc : Loc nD τ sig := (thr d L).loc cc0_scratch1
abbrev uLoc : Loc nD τ sig := (thr d L).loc main_v1_scv

/-- Slot `b`'s part of the subcore's share of the table; its share of the fetched list, on the elements `I`; its plane
    of the ring; row `j` of the subcore's columns of the result. -/
abbrev tblS (b : Fin 7) : sProp 𝕄 := tLoc d L ↦[tblAt.view.set]{pieceOf D.q 7 (by decide) b} D.tab
abbrev lstS (b : Fin 7) (I : Finset S50x128.Idx) : sProp 𝕄 := lLoc d L ↦[I]{pieceOf fullShare 7 (by decide) b} D.lst
abbrev plane (b : Fin 7) (f : S7x128x128.Idx → Elt F .f32) : sProp 𝕄 := rLoc d L ↦[planeSet b.val]{fullShare} f
abbrev blk (j : ℕ) (f : S50x4096x128.Idx → Elt F .f32) : sProp 𝕄 := uLoc d L ↦[blkSet (col L) j]{fullShare} f
abbrev cell (s : DmaSem sig) : sProp 𝕄 := semVal (thr d L, SemLoc.dma s) 0

/-- The credit one transfer of 128 rows gives. -/
def NC : ℕ := (slotAt ![0, 0, 0] inb_S7x128x128_S1x128x128_0_0_0).view.dmaCredit

/-- A slot in use by nothing: `sg` and `sw` are its gathers' and its writes' semaphores. -/
def Idle (b : Fin 7) (sg sw : DmaSem sig) : sProp 𝕄 :=
  iprop((∃ f, plane (F := F) d L b f) ∗ tblS d L D b ∗ lstS d L D b Finset.univ ∗ cell (F := F) d L sg ∗ cell (F := F) d L sw)
/-- A slot being filled with the rows that row `j` of the list names. -/
def Filling (b : Fin 7) (sg sw : DmaSem sig) (j : ℕ) : sProp 𝕄 :=
  iprop(Transfers.Flight countersEmb (thr d L) (.dma sg) (default : HIx 1) NC
      iprop((∃ f, ⌜Holds D.new (col L) b.val j f⌝ ∗ plane (F := F) d L b f) ∗ tblS d L D b ∗ lstS d L D b (rowSet j))
    ∗ lstS d L D b (Finset.univ \ rowSet j) ∗ cell (F := F) d L sw)
/-- A slot filled with them. -/
def Filled (b : Fin 7) (sg sw : DmaSem sig) (j : ℕ) : sProp 𝕄 :=
  iprop((∃ f, ⌜Holds D.new (col L) b.val j f⌝ ∗ plane (F := F) d L b f) ∗ tblS d L D b ∗ lstS d L D b Finset.univ ∗ cell (F := F) d L sg ∗ cell (F := F) d L sw)
/-- A slot being written to row `j` of the result. -/
def Writing (b : Fin 7) (sg sw : DmaSem sig) (j : ℕ) : sProp 𝕄 :=
  iprop(Transfers.Flight countersEmb (thr d L) (.dma sw) (default : HIx 1) NC
      iprop(blk d L j D.new ∗ ∃ f, plane (F := F) d L b f)
    ∗ tblS d L D b ∗ lstS d L D b Finset.univ ∗ cell (F := F) d L sg)

/-- What the subcore owes, and the waits it has answered beside those it began with. -/
def OW (O : CellTallies nD τ sig (HIx 1)) (W : Waits sig (HIx 1)) : sProp 𝕄 :=
  iprop(∃ W', ⌜∀ p ∈ W', p ∈ W ∨ p.2 = none⌝ ∗ owes (thr d L) O W')

variable [FloatOps F] {d L D}

/-- A slot written with the gather of the rows that row `j` of the list names holds row `j`. -/
theorem holds_gather (hD : D.Good (col L)) {b j : ℕ} {offB : Fin 3 → ℕ} {offI : Fin 2 → ℕ} (eB : offB = ![b, 0, 0]) (eI : offI = ![j, 0])
    {hB : ∀ a, offB a + S1x128x128.size a ≤ S7x128x128.size a} {hI : ∀ a, offI a + S1x128.size a ≤ S50x128.size a}
    (f : S7x128x128.Idx → Elt F .f32) (hn) (hin) :
    Holds D.new (col L) b j ((slotAt offB hB).view.write (Elt F) f
      (SparseCore.gatherPayload gathers_S100000x128_S128x128 (tblAt.view.read (Elt F) D.tab)
        (SparseCore.rows ((rowAt offI hI).view.read (Elt F) D.lst) hn hin)) Finset.univ) := by
  intro x y hx hy0 hy1 hy2
  have hmem : x ∈ (slotAt offB hB).view.set := by rw [slot_set eB]; exact mem_planeSet.mpr hx
  obtain ⟨z, -, rfl⟩ := Finset.mem_map.mp hmem
  obtain ⟨-, h1, h2⟩ := slot_coords (h := hB) eB z rfl
  rw [View.write_emb_of_mem _ _ (Finset.mem_univ z)]
  refine (cast_eq _ _).trans ?_
  unfold SparseCore.gatherPayload
  rw [View.read_apply]
  refine (cast_eq _ _).trans ?_
  -- the list's word for the element's row
  let w : S128.Idx := fun | 0 => z 0
  obtain ⟨r0, r1⟩ := row_coords (h := hI) eI w rfl
  refine hD.val ((rowAt offI hI).view.emb w) _ y (hy0.trans r0.symm) (hy1.trans (by rw [h1, r1])) ?_ ?_
  · show 0 + 1 * (Shape.Gathers.idx gathers_S100000x128_S128x128 (SparseCore.rows ((rowAt offI hI).view.read (Elt F) D.lst) hn hin) z
      gathers_S100000x128_S128x128.axis).val = _
    rw [Shape.Gathers.idx_axis]
    unfold SparseCore.rows
    rw [Nat.zero_add, Nat.one_mul]
    have hw : S128.rowMajor.symm (Fin.cast hn.symm (z gathers_S100000x128_S128x128.axis')) = w := by
      rw [Equiv.symm_apply_eq]
      exact Fin.ext (Shape.rowMajor_val_one w).symm
    show ((rowAt offI hI).view.read (Elt F) D.lst (S128.rowMajor.symm (Fin.cast hn.symm (z gathers_S100000x128_S128x128.axis')))).toNat = _
    rw [hw, View.read_apply]
    exact congrArg BitVec.toNat (cast_eq _ _)
  · show 0 + 1 * (Shape.Gathers.idx gathers_S100000x128_S128x128 (SparseCore.rows ((rowAt offI hI).view.read (Elt F) D.lst) hn hin) z 1).val = _
    rw [Shape.Gathers.idx_of_ne _ _ _ _ (by decide), Nat.zero_add, Nat.one_mul]
    exact h2.symm.trans hy2.symm

/-- Starting the gather of the rows that row `j` of the list names into slot `b`. -/
theorem wp_gather (hD : D.Good (col L)) (b : Fin 7) (sg sw : DmaSem sig) (j : ℕ) {offB : Fin 3 → ℕ} {offI : Fin 2 → ℕ}
    (eB : offB = ![b.val, 0, 0]) (eI : offI = ![j, 0])
    {hB : ∀ a, offB a + S1x128x128.size a ≤ S7x128x128.size a} {hI : ∀ a, offI a + S1x128.size a ≤ S50x128.size a}
    {hp : (thr d L).2.kind = .scVector} {hn : S128.numel = S128x128.size gathers_S100000x128_S128x128.axis'}
    {hsrc : tblAt.view.WordExact} {he : EltTy.f32.bits = 32} {hsp : Space.hbm = .hbm ∨ Space.hbm = .shared} {hr : S100000x128.StreamRows 0}
    {α : Type} {Q : α → sProp 𝕄} {k : PUnit → Prog (TpuEff nD τ sig (Elt F) Λ₀ (thr d L).2) α} :
    iprop(Idle d L D b sg sw ∗ (Filling d L D b sg sw j -∗ wp frame (wpE (defs₀ (F := F)) 𝒱₀ (thr d L) none) Set.univ (k ⟨⟩) Q))
      ⊢ wp frame (wpE (defs₀ (F := F)) 𝒱₀ (thr d L) none) Set.univ
        (SparseCore.enqueueIndirectGather hp tblAt (slotAt offB hB) gathers_S100000x128_S128x128 (rowAt offI hI) hn sg hsrc he hsp hr >>= k) Q := by
  have hin : ∀ x, ((rowAt offI hI).view.read (Elt F) D.lst x).toNat < S100000x128.size gathers_S100000x128_S128x128.axis := fun x => by
    rw [View.read_apply]
    exact lt_of_eq_of_lt (congrArg BitVec.toNat (cast_eq _ _)) (hD.inb _)
  unfold Idle
  iintro ⟨⟨⟨%f, Hp⟩, Ht, Hl, Hg, Hw⟩, Hk⟩
  ihave Hl' := (show lstS d L D b Finset.univ ⊢ iprop(lstS d L D b (rowSet j) ∗ lstS d L D b (Finset.univ \ rowSet j)) from
    (pointsTo_split_subset (Finset.subset_univ (rowSet j))).1) $$ Hl
  icases Hl' with ⟨Hl, Hlr⟩
  iapply (SparseCore.wp_indirectGatherLocal (offs := rowAt offI hI) (dst := slotAt offB hB) (src := tblAt) countersEmb 𝒱₀ (thr d L) none (hg := gathers_S100000x128_S128x128)
      (q := pieceOf D.q 7 (by decide) b) (qo := pieceOf fullShare 7 (by decide) b) (fs := D.tab) (fd := f) (fo := D.lst) (default : HIx 1) NC
      (SparseCore.sum_rowCredit_eq_dmaCredit _ _ fun _ => rfl) (by decide) hin) $$ [Hp Ht Hl Hg]
  · isplitl [Ht]; · iexact Ht
    isplitl [Hp]; · iapply (Entails.of_eq (by rw [slot_set eB])) $$ Hp
    isplitl [Hl]; · iapply (Entails.of_eq (by rw [row_set eI])) $$ Hl
    iexact Hg
  iintro Hfl
  iapply Hk
  unfold Filling
  isplitl [Hfl]
  · iapply (Transfers.Flight_mono countersEmb (thr d L)) $$ Hfl
    rw [slot_set eB, row_set eI]
    iintro ⟨Hp, Ht, Hl⟩
    isplitl [Hp]
    · iexists ((slotAt offB hB).view.write (Elt F) f
        (SparseCore.gatherPayload gathers_S100000x128_S128x128 (tblAt.view.read (Elt F) D.tab)
          (SparseCore.rows ((rowAt offI hI).view.read (Elt F) D.lst) hn hin)) Finset.univ)
      isplitr
      · ipureintro; exact holds_gather hD eB eI f hn hin
      · iexact Hp
    isplitl [Ht]; · iexact Ht
    iexact Hl
  isplitl [Hlr]; · iexact Hlr
  iexact Hw

/-- Waiting for the gather into slot `b`. -/
theorem wp_gathered {O : CellTallies nD τ sig (HIx 1)} {W : Waits sig (HIx 1)} (b : Fin 7) (sg sw : DmaSem sig) (j : ℕ) {offB : Fin 3 → ℕ}
    {hB : ∀ a, offB a + S1x128x128.size a ≤ S7x128x128.size a}
    {hsrc : tblAt.view.WordExact} {hdst : (slotAt offB hB).view.WordExact}
    {α : Type} {Q : α → sProp 𝕄} {k : PUnit → Prog (TpuEff nD τ sig (Elt F) Λ₀ (thr d L).2) α} :
    iprop(Transfers.MayWaits (thr d L) (default : HIx 1) O ∗ Filling d L D b sg sw j ∗ OW d L O W
        ∗ (iprop(Filled d L D b sg sw j ∗ OW d L O W) -∗ wp frame (wpE (defs₀ (F := F)) 𝒱₀ (thr d L) none) Set.univ (k ⟨⟩) Q))
      ⊢ wp frame (wpE (defs₀ (F := F)) 𝒱₀ (thr d L) none) Set.univ
        (SparseCore.waitIndirectGather sg tblAt (slotAt offB hB) hsrc hdst >>= k) Q := by
  change _ ⊢ wp frame (wpE (defs₀ (F := F)) 𝒱₀ (thr d L) none) Set.univ (.op (.waitDma2 sg tblAt (slotAt offB hB) hsrc hdst) k) Q
  unfold Filling OW
  iintro ⟨Hmw, ⟨Hfl, Hlr, Hw⟩, ⟨%W', %hW, HO⟩, Hk⟩
  iapply (Transfers.wp_waitLocalO countersEmb 𝒱₀ (thr d L) none (srcw := tblAt) (dstw := slotAt offB hB) (default : HIx 1) (N := NC) rfl) $$ [Hfl HO Hmw]
  · isplitl [Hfl]; · iexact Hfl
    isplitl [HO]; · iexact HO
    iapply (Transfers.MayWaits.elim (SemLoc.dma sg)) $$ Hmw
  iintro ⟨⟨Hp, Ht, Hl⟩, Hg, HO⟩
  iapply Hk
  isplitr [HO]
  · unfold Filled
    isplitl [Hp]; · iexact Hp
    isplitl [Ht]; · iexact Ht
    isplitl [Hl Hlr]
    · iapply (pointsTo_split_subset (Finset.subset_univ (rowSet j))).2
      isplitl [Hl] <;> iassumption
    isplitl [Hg] <;> iassumption
  iexists _; isplitr
  swap; · iexact HO
  ipureintro; intro p hp
  rcases Finset.mem_insert.mp hp with hp | hp
  · exact .inr (hp ▸ rfl)
  · exact hW p hp

/-- A block written with a slot that holds row `j` is row `j` of the result. -/
theorem block_eq {b j : ℕ} {offB offO : Fin 3 → ℕ} (eB : offB = ![b, 0, 0]) (eO : offO = ![j, col L, 0])
    {hB : ∀ a, offB a + S1x128x128.size a ≤ S7x128x128.size a} {hO : ∀ a, offO a + S1x128x128.size a ≤ S50x4096x128.size a}
    (g : S50x4096x128.Idx → Elt F .f32) {f : S7x128x128.Idx → Elt F .f32} (hf : Holds D.new (col L) b j f) :
    ∀ y ∈ (outAt offO hO).view.set, (outAt offO hO).view.write (Elt F) g ((slotAt offB hB).view.read (Elt F) f) Finset.univ y = D.new y := by
  intro y hy
  obtain ⟨z, -, rfl⟩ := Finset.mem_map.mp hy
  rw [View.write_emb_of_mem _ _ (Finset.mem_univ z)]
  refine (cast_eq _ _).trans ?_
  rw [View.read_apply]
  refine (cast_eq _ _).trans ?_
  obtain ⟨b0, b1, b2⟩ := slot_coords (h := hB) eB z rfl
  obtain ⟨o0, o1, o2⟩ := out_coords (h := hO) eO z rfl
  exact hf _ _ b0 o0 (by rw [o1, b1]) (o2.trans b2.symm)

/-- Starting the write of slot `b` to row `j` of the result. -/
theorem wp_write (b : Fin 7) (sg sw : DmaSem sig) (j : ℕ) {offB offO : Fin 3 → ℕ} (eB : offB = ![b.val, 0, 0]) (eO : offO = ![j, col L, 0])
    {hB : ∀ a, offB a + S1x128x128.size a ≤ S7x128x128.size a} {hO : ∀ a, offO a + S1x128x128.size a ≤ S50x4096x128.size a}
    {hsrc : (slotAt offB hB).view.WordExact} {hdst : (outAt offO hO).view.WordExact}
    {hsem : DmaTarget.Typed (nD := nD) (p := (thr d L).2) .vmem (.dma sw) (.here (outAt offO hO))}
    {α : Type} {Q : α → sProp 𝕄} {k : PUnit → Prog (TpuEff nD τ sig (Elt F) Λ₀ (thr d L).2) α} :
    iprop(Filled d L D b sg sw j ∗ blk d L j D.old
        ∗ (Writing d L D b sg sw j -∗ wp frame (wpE (defs₀ (F := F)) 𝒱₀ (thr d L) none) Set.univ (k ⟨⟩) Q))
      ⊢ wp frame (wpE (defs₀ (F := F)) 𝒱₀ (thr d L) none) Set.univ
        (Prog.lift (.enqueueDma (slotAt offB hB) (.here (outAt offO hO)) (.dma sw) hsrc hdst hsem) >>= k) Q := by
  change _ ⊢ wp frame (wpE (defs₀ (F := F)) 𝒱₀ (thr d L) none) Set.univ
    (.op (.enqueueDmaAs (slotAt offB hB) (.here (outAt offO hO)) .same (.dma sw) hsrc hdst hsem) k) Q
  unfold Filled
  iintro ⟨⟨⟨%f, %hf, Hp⟩, Ht, Hl, Hg, Hw⟩, Ho, Hk⟩
  iapply (Transfers.wp_dmaLocal countersEmb 𝒱₀ (thr d L) none (src := slotAt offB hB) (dst := outAt offO hO) (q := fullShare) (fs := f) (fd := D.old)
      (Sd := (outAt offO hO).view.set) (default : HIx 1) NC rfl (by decide) subset_rfl) $$ [Hp Ho Hw]
  · isplitl [Hp]; · iapply (Entails.of_eq (by rw [slot_set eB])) $$ Hp
    isplitl [Ho]; · iapply (Entails.of_eq (by rw [out_set eO])) $$ Ho
    iexact Hw
  iintro Hfl
  iapply Hk
  unfold Writing
  isplitl [Hfl]
  · iapply (Transfers.Flight_mono countersEmb (thr d L)) $$ Hfl
    rw [ReadAs.apply_same, pointsTo_congr (block_eq eB eO D.old hf), slot_set eB, out_set eO]
    iintro ⟨Ho, Hp⟩
    isplitl [Ho]; · iexact Ho
    iexists f; iexact Hp
  isplitl [Ht]; · iexact Ht
  isplitl [Hl]; · iexact Hl
  iexact Hg

/-- Waiting for the write of slot `b`. -/
theorem wp_written {O : CellTallies nD τ sig (HIx 1)} {W : Waits sig (HIx 1)} (b : Fin 7) (sg sw : DmaSem sig) (j : ℕ) {offB offO : Fin 3 → ℕ}
    {hB : ∀ a, offB a + S1x128x128.size a ≤ S7x128x128.size a} {hO : ∀ a, offO a + S1x128x128.size a ≤ S50x4096x128.size a}
    {hsrc : (slotAt offB hB).view.WordExact} {hdst : (outAt offO hO).view.WordExact}
    {α : Type} {Q : α → sProp 𝕄} {k : PUnit → Prog (TpuEff nD τ sig (Elt F) Λ₀ (thr d L).2) α} :
    iprop(Transfers.MayWaits (thr d L) (default : HIx 1) O ∗ Writing d L D b sg sw j ∗ OW d L O W
        ∗ (iprop(Idle d L D b sg sw ∗ blk d L j D.new ∗ OW d L O W) -∗ wp frame (wpE (defs₀ (F := F)) 𝒱₀ (thr d L) none) Set.univ (k ⟨⟩) Q))
      ⊢ wp frame (wpE (defs₀ (F := F)) 𝒱₀ (thr d L) none) Set.univ
        (Prog.lift (.waitDma2 sw (slotAt offB hB) (outAt offO hO) hsrc hdst) >>= k) Q := by
  change _ ⊢ wp frame (wpE (defs₀ (F := F)) 𝒱₀ (thr d L) none) Set.univ (.op (.waitDma2 sw (slotAt offB hB) (outAt offO hO) hsrc hdst) k) Q
  unfold Writing OW
  iintro ⟨Hmw, ⟨Hfl, Ht, Hl, Hg⟩, ⟨%W', %hW, HO⟩, Hk⟩
  iapply (Transfers.wp_waitLocalO countersEmb 𝒱₀ (thr d L) none (srcw := slotAt offB hB) (dstw := outAt offO hO) (default : HIx 1) (N := NC) rfl) $$ [Hfl HO Hmw]
  · isplitl [Hfl]; · iexact Hfl
    isplitl [HO]; · iexact HO
    iapply (Transfers.MayWaits.elim (SemLoc.dma sw)) $$ Hmw
  iintro ⟨⟨Ho, Hp⟩, Hw, HO⟩
  iapply Hk
  isplitl [Hp Ht Hl Hg Hw]
  · unfold Idle
    isplitl [Hp]; · iexact Hp
    isplitl [Ht]; · iexact Ht
    isplitl [Hl]; · iexact Hl
    isplitl [Hg] <;> iassumption
  isplitl [Ho]; · iexact Ho
  iexists _; isplitr
  swap; · iexact HO
  ipureintro; intro p hp
  rcases Finset.mem_insert.mp hp with hp | hp
  · exact .inr (hp ▸ rfl)
  · exact hW p hp

end Cert.KernelIdeal.Lookup

end
-- ==== Proof.Ideal.Body.lean ====
/-
  The task of one vector subcore.
-/
module

public import proofs.«01_k».proof.Proof.Ideal.Ops

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The ring's semaphores and the rows left and done -/

/-- Slot `b`'s semaphores: its gathers' and its writes'. -/
def gs : Fin 7 → DmaSem sig
  | 0 => cc0_scratch2.sem | 1 => cc0_scratch3.sem | 2 => cc0_scratch4.sem | 3 => cc0_scratch5.sem
  | 4 => cc0_scratch6.sem | 5 => cc0_scratch7.sem | 6 => cc0_scratch8.sem
def ws : Fin 7 → DmaSem sig
  | 0 => cc0_scratch9.sem | 1 => cc0_scratch10.sem | 2 => cc0_scratch11.sem | 3 => cc0_scratch12.sem
  | 4 => cc0_scratch13.sem | 5 => cc0_scratch14.sem | 6 => cc0_scratch15.sem

variable (d : Dev nD) (L : grid0.Coords) (D : Data F)

omit [FloatOps F] in
/-- The rows of the result from `n` on, as they were; the rows before `n`, as they are to be. -/
def pend (n : ℕ) : sProp 𝕄 := bigSep (Finset.Ico n 50) fun j => blk d L j D.old
def done (n : ℕ) : sProp 𝕄 := bigSep (Finset.range n) fun j => blk d L j D.new
/-- Slot `b` being filled with row `j`, or idle when there is no row `j`. -/
def Next (b : Fin 7) (j : ℕ) : sProp 𝕄 := if j < 50 then Filling d L D b (gs b) (ws b) j else Idle d L D b (gs b) (ws b)

theorem pend_take {n : ℕ} (h : n < 50) : pend d L D n = iprop(blk d L n D.old ∗ pend d L D (n + 1)) := by
  unfold pend
  rw [show Finset.Ico n 50 = insert n (Finset.Ico (n + 1) 50) by ext j; simp only [Finset.mem_Ico, Finset.mem_insert]; omega,
    SparseCore.bigSep_insert' (by simp)]
theorem done_add (n : ℕ) : done d L D (n + 1) = iprop(blk d L n D.new ∗ done d L D n) := by
  unfold done
  rw [Finset.range_add_one, SparseCore.bigSep_insert' (by simp)]

variable {d L D}

/-- Refilling an idle slot with row `j` of the list, if there is one. -/
theorem wp_refill (hD : D.Good (col L)) (b : Fin 7) (j : ℕ) {c : Prop} [Decidable c] (hc : c ↔ j < 50) {offB : Fin 3 → ℕ} {offI : Fin 2 → ℕ}
    (eB : offB = ![b.val, 0, 0]) (eI : offI = ![j, 0])
    {hB : ∀ a, offB a + S1x128x128.size a ≤ S7x128x128.size a} {hI : c → ∀ a, offI a + S1x128.size a ≤ S50x128.size a}
    {hp : (thr d L).2.kind = .scVector} {hn : S128.numel = S128x128.size gathers_S100000x128_S128x128.axis'}
    {hsrc : tblAt.view.WordExact} {he : EltTy.f32.bits = 32} {hsp : Space.hbm = .hbm ∨ Space.hbm = .shared} {hr : S100000x128.StreamRows 0}
    {α : Type} {Q : α → sProp 𝕄} {k : PUnit → Prog (TpuEff nD τ sig (Elt F) Λ₀ (thr d L).2) α} :
    iprop(Idle d L D b (gs b) (ws b) ∗ (Next d L D b j -∗ wp frame (wpE (defs₀ (F := F)) 𝒱₀ (thr d L) none) Set.univ (k ⟨⟩) Q))
      ⊢ wp frame (wpE (defs₀ (F := F)) 𝒱₀ (thr d L) none) Set.univ
        (if h : c then (SparseCore.enqueueIndirectGather hp tblAt (slotAt offB hB) gathers_S100000x128_S128x128 (rowAt offI (hI h)) hn (gs b) hsrc he hsp hr >>= k)
          else k ⟨⟩) Q := by
  by_cases h : c
  · rw [dif_pos h, Next, if_pos (hc.mp h)]
    exact wp_gather hD b (gs b) (ws b) j eB eI
  · rw [dif_neg h, Next, if_neg (fun h' => h (hc.mpr h'))]
    iintro ⟨H, Hk⟩
    iapply Hk; iexact H

/-- One row of the ring, after the first: row `i + 1`, gathered into slot `b`, is written out; the write of row `i`, out
    of slot `b'`, is awaited; and slot `b'` is refilled with row `i + 7`, if there is one. -/
theorem wp_row (hD : D.Good (col L)) {O : CellTallies nD τ sig (HIx 1)} {W : Waits sig (HIx 1)} (b b' : Fin 7) (i : ℕ) (hi : i + 1 < 50)
    {c : Prop} [Decidable c] (hc : c ↔ i + 7 < 50)
    {o1 o2 o3 o4 o5 o6 : Fin 3 → ℕ} {offI : Fin 2 → ℕ} (e1 : o1 = ![b.val, 0, 0]) (e2 : o2 = ![b.val, 0, 0]) (e3 : o3 = ![i + 1, col L, 0])
    (e4 : o4 = ![b'.val, 0, 0]) (e5 : o5 = ![i, col L, 0]) (e6 : o6 = ![b'.val, 0, 0]) (eI : offI = ![i + 7, 0])
    {h1 : ∀ a, o1 a + S1x128x128.size a ≤ S7x128x128.size a} {h2 : ∀ a, o2 a + S1x128x128.size a ≤ S7x128x128.size a}
    {h3 : ∀ a, o3 a + S1x128x128.size a ≤ S50x4096x128.size a}
    {h4 : ∀ a, o4 a + S1x128x128.size a ≤ S7x128x128.size a} {h5 : ∀ a, o5 a + S1x128x128.size a ≤ S50x4096x128.size a}
    {h6 : ∀ a, o6 a + S1x128x128.size a ≤ S7x128x128.size a} {hI : c → ∀ a, offI a + S1x128.size a ≤ S50x128.size a}
    {w1 : tblAt.view.WordExact} {w2 : (slotAt o1 h1).view.WordExact} {w3 : (slotAt o2 h2).view.WordExact} {w4 : (outAt o3 h3).view.WordExact}
    {ty : DmaTarget.Typed (nD := nD) (p := (thr d L).2) .vmem (.dma (ws b)) (.here (outAt o3 h3))}
    {w5 : (slotAt o4 h4).view.WordExact} {w6 : (outAt o5 h5).view.WordExact}
    {hp : (thr d L).2.kind = .scVector} {hn : S128.numel = S128x128.size gathers_S100000x128_S128x128.axis'}
    {hsrc : tblAt.view.WordExact} {he : EltTy.f32.bits = 32} {hsp : Space.hbm = .hbm ∨ Space.hbm = .shared} {hr : S100000x128.StreamRows 0}
    {α : Type} {Q : α → sProp 𝕄} {k : PUnit → Prog (TpuEff nD τ sig (Elt F) Λ₀ (thr d L).2) α} :
    iprop(Transfers.MayWaits (thr d L) (default : HIx 1) O ∗ OW d L O W ∗ Next d L D b (i + 1) ∗ Writing d L D b' (gs b') (ws b') i
        ∗ pend d L D (i + 1) ∗ done d L D i
        ∗ (iprop(OW d L O W ∗ Writing d L D b (gs b) (ws b) (i + 1) ∗ Next d L D b' (i + 7) ∗ pend d L D (i + 2) ∗ done d L D (i + 1))
            -∗ wp frame (wpE (defs₀ (F := F)) 𝒱₀ (thr d L) none) Set.univ (k ⟨⟩) Q))
      ⊢ wp frame (wpE (defs₀ (F := F)) 𝒱₀ (thr d L) none) Set.univ
        (SparseCore.waitIndirectGather (gs b) tblAt (slotAt o1 h1) w1 w2 >>= fun _ =>
          Prog.lift (.enqueueDma (slotAt o2 h2) (.here (outAt o3 h3)) (.dma (ws b)) w3 w4 ty) >>= fun _ =>
          Prog.lift (.waitDma2 (ws b') (slotAt o4 h4) (outAt o5 h5) w5 w6) >>= fun _ =>
          if h : c then (SparseCore.enqueueIndirectGather hp tblAt (slotAt o6 h6) gathers_S100000x128_S128x128 (rowAt offI (hI h)) hn (gs b') hsrc he hsp hr >>= k)
          else k ⟨⟩) Q := by
  rw [Next, if_pos hi, pend_take d L D hi, done_add]
  iintro ⟨#Hmw, HO, Hb, Hb', ⟨Hold, Hpend⟩, Hdone, Hk⟩
  iapply (wp_gathered b (gs b) (ws b) (i + 1)) $$ [-]
  isplitr; · iexact Hmw
  isplitl [Hb]; · iexact Hb
  isplitl [HO]; · iexact HO
  iintro ⟨Hb, HO⟩
  iapply (wp_write b (gs b) (ws b) (i + 1) e2 e3) $$ [-]
  isplitl [Hb]; · iexact Hb
  isplitl [Hold]; · iexact Hold
  iintro Hb
  iapply (wp_written b' (gs b') (ws b') i) $$ [-]
  isplitr; · iexact Hmw
  isplitl [Hb']; · iexact Hb'
  isplitl [HO]; · iexact HO
  iintro ⟨Hb', Hnew, HO⟩
  iapply (wp_refill hD b' (i + 7) hc e6 eI) $$ [-]
  isplitl [Hb']; · iexact Hb'
  iintro Hb'
  iapply Hk
  isplitl [HO]; · iexact HO
  isplitl [Hb]; · iexact Hb
  isplitl [Hb']; · iexact Hb'
  isplitl [Hpend]; · iexact Hpend
  isplitl [Hnew]; · iexact Hnew
  iexact Hdone

/-- What a row's step starts from, for row `i + 1` in slot `b` and row `i` in slot `b'`, and what it leaves. -/
abbrev RowPre (d : Dev nD) (L : grid0.Coords) (D : Data F) (O : CellTallies nD τ sig (HIx 1)) (W : Waits sig (HIx 1)) (b b' : Fin 7) (i : ℕ) : sProp 𝕄 :=
  iprop(OW d L O W ∗ Next d L D b (i + 1) ∗ Writing d L D b' (gs b') (ws b') i ∗ pend d L D (i + 1) ∗ done d L D i)
abbrev RowPost (d : Dev nD) (L : grid0.Coords) (D : Data F) (O : CellTallies nD τ sig (HIx 1)) (W : Waits sig (HIx 1)) (b b' : Fin 7) (i : ℕ) : sProp 𝕄 :=
  iprop(OW d L O W ∗ Writing d L D b (gs b) (ws b) (i + 1) ∗ Next d L D b' (i + 7) ∗ pend d L D (i + 2) ∗ done d L D (i + 1))

theorem cond4_iff (t : Fin k0_t1_loop.trips) : k0_cond4 t = 1#1 ↔ 7 * t.val + 7 < 50 := by
  revert t; decide +kernel
/-- Trip `t`'s second row. -/
theorem part2 (hD : D.Good (col L)) {O : CellTallies nD τ sig (HIx 1)} {W : Waits sig (HIx 1)} (t : Fin k0_t1_loop.trips) (ht : t.val < 7) (x y : BitVec 32) {Q : BitVec 32 → sProp 𝕄} :
    iprop(Transfers.MayWaits (thr d L) (default : HIx 1) O ∗ RowPre d L D O W 1 0 (7 * t.val) ∗ (∀ r, RowPost d L D O W 1 0 (7 * t.val) -∗ Q r))
      ⊢ wp frame (wpE (defs₀ (F := F)) 𝒱₀ (thr d L) none) Set.univ
        (k0_part2 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t x y) Q := by
  rw [k0_part2_eq_skeleton]
  refine BIBase.Entails.trans ?_ (wp_row hD (O := O) (W := W) (b := 1) (b' := 0) (i := 7 * t.val) (by omega) (cond4_iff t) rfl rfl
    (k0_off3_eq L t ⟨1, by decide⟩) rfl (k0_off7_eq L t ⟨0, by decide⟩) rfl (k0_off8_eq t))
  unfold RowPre RowPost
  iintro ⟨Hmw, ⟨HO, Hb, Hb', Hp, Hd⟩, Hk⟩
  isplitl [Hmw]; · iexact Hmw
  isplitl [HO]; · iexact HO
  isplitl [Hb]; · iexact Hb
  isplitl [Hb']; · iexact Hb'
  isplitl [Hp]; · iexact Hp
  isplitl [Hd]; · iexact Hd
  iintro H
  rw [wp_pure]
  imodintro
  iapply Hk; iexact H

theorem cond5_iff (t : Fin k0_t1_loop.trips) : k0_cond5 t = 1#1 ↔ 7 * t.val + 1 + 7 < 50 := by
  revert t; decide +kernel
/-- Trip `t`'s third row. -/
theorem part3 (hD : D.Good (col L)) {O : CellTallies nD τ sig (HIx 1)} {W : Waits sig (HIx 1)} (t : Fin k0_t1_loop.trips) (ht : t.val < 7) (x y : BitVec 32) {Q : BitVec 32 → sProp 𝕄} :
    iprop(Transfers.MayWaits (thr d L) (default : HIx 1) O ∗ RowPre d L D O W 2 1 (7 * t.val + 1) ∗ (∀ r, RowPost d L D O W 2 1 (7 * t.val + 1) -∗ Q r))
      ⊢ wp frame (wpE (defs₀ (F := F)) 𝒱₀ (thr d L) none) Set.univ
        (k0_part3 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t x y) Q := by
  rw [k0_part3_eq_skeleton]
  refine BIBase.Entails.trans ?_ (wp_row hD (O := O) (W := W) (b := 2) (b' := 1) (i := 7 * t.val + 1) (by omega) (cond5_iff t) rfl rfl
    (k0_off3_eq L t ⟨2, by decide⟩) rfl (k0_off7_eq L t ⟨1, by decide⟩) rfl (k0_off9_eq t))
  unfold RowPre RowPost
  iintro ⟨Hmw, ⟨HO, Hb, Hb', Hp, Hd⟩, Hk⟩
  isplitl [Hmw]; · iexact Hmw
  isplitl [HO]; · iexact HO
  isplitl [Hb]; · iexact Hb
  isplitl [Hb']; · iexact Hb'
  isplitl [Hp]; · iexact Hp
  isplitl [Hd]; · iexact Hd
  iintro H
  rw [wp_pure]
  imodintro
  iapply Hk; iexact H

theorem cond6_iff (t : Fin k0_t1_loop.trips) : k0_cond6 t = 1#1 ↔ 7 * t.val + 2 + 7 < 50 := by
  revert t; decide +kernel
/-- Trip `t`'s fourth row. -/
theorem part4 (hD : D.Good (col L)) {O : CellTallies nD τ sig (HIx 1)} {W : Waits sig (HIx 1)} (t : Fin k0_t1_loop.trips) (ht : t.val < 7) (x y : BitVec 32) {Q : BitVec 32 → sProp 𝕄} :
    iprop(Transfers.MayWaits (thr d L) (default : HIx 1) O ∗ RowPre d L D O W 3 2 (7 * t.val + 2) ∗ (∀ r, RowPost d L D O W 3 2 (7 * t.val + 2) -∗ Q r))
      ⊢ wp frame (wpE (defs₀ (F := F)) 𝒱₀ (thr d L) none) Set.univ
        (k0_part4 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t x y) Q := by
  rw [k0_part4_eq_skeleton]
  refine BIBase.Entails.trans ?_ (wp_row hD (O := O) (W := W) (b := 3) (b' := 2) (i := 7 * t.val + 2) (by omega) (cond6_iff t) rfl rfl
    (k0_off3_eq L t ⟨3, by decide⟩) rfl (k0_off7_eq L t ⟨2, by decide⟩) rfl (k0_off10_eq t))
  unfold RowPre RowPost
  iintro ⟨Hmw, ⟨HO, Hb, Hb', Hp, Hd⟩, Hk⟩
  isplitl [Hmw]; · iexact Hmw
  isplitl [HO]; · iexact HO
  isplitl [Hb]; · iexact Hb
  isplitl [Hb']; · iexact Hb'
  isplitl [Hp]; · iexact Hp
  isplitl [Hd]; · iexact Hd
  iintro H
  rw [wp_pure]
  imodintro
  iapply Hk; iexact H

theorem cond7_iff (t : Fin k0_t1_loop.trips) : k0_cond7 t = 1#1 ↔ 7 * t.val + 3 + 7 < 50 := by
  revert t; decide +kernel
/-- Trip `t`'s fifth row. -/
theorem part5 (hD : D.Good (col L)) {O : CellTallies nD τ sig (HIx 1)} {W : Waits sig (HIx 1)} (t : Fin k0_t1_loop.trips) (ht : t.val < 7) (x y : BitVec 32) {Q : BitVec 32 → sProp 𝕄} :
    iprop(Transfers.MayWaits (thr d L) (default : HIx 1) O ∗ RowPre d L D O W 4 3 (7 * t.val + 3) ∗ (∀ r, RowPost d L D O W 4 3 (7 * t.val + 3) -∗ Q r))
      ⊢ wp frame (wpE (defs₀ (F := F)) 𝒱₀ (thr d L) none) Set.univ
        (k0_part5 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t x y) Q := by
  rw [k0_part5_eq_skeleton]
  refine BIBase.Entails.trans ?_ (wp_row hD (O := O) (W := W) (b := 4) (b' := 3) (i := 7 * t.val + 3) (by omega) (cond7_iff t) rfl rfl
    (k0_off3_eq L t ⟨4, by decide⟩) rfl (k0_off7_eq L t ⟨3, by decide⟩) rfl (k0_off11_eq t))
  unfold RowPre RowPost
  iintro ⟨Hmw, ⟨HO, Hb, Hb', Hp, Hd⟩, Hk⟩
  isplitl [Hmw]; · iexact Hmw
  isplitl [HO]; · iexact HO
  isplitl [Hb]; · iexact Hb
  isplitl [Hb']; · iexact Hb'
  isplitl [Hp]; · iexact Hp
  isplitl [Hd]; · iexact Hd
  iintro H
  rw [wp_pure]
  imodintro
  iapply Hk; iexact H

theorem cond8_iff (t : Fin k0_t1_loop.trips) : k0_cond8 t = 1#1 ↔ 7 * t.val + 4 + 7 < 50 := by
  revert t; decide +kernel
/-- Trip `t`'s sixth row. -/
theorem part6 (hD : D.Good (col L)) {O : CellTallies nD τ sig (HIx 1)} {W : Waits sig (HIx 1)} (t : Fin k0_t1_loop.trips) (ht : t.val < 7) (x y : BitVec 32) {Q : BitVec 32 → sProp 𝕄} :
    iprop(Transfers.MayWaits (thr d L) (default : HIx 1) O ∗ RowPre d L D O W 5 4 (7 * t.val + 4) ∗ (∀ r, RowPost d L D O W 5 4 (7 * t.val + 4) -∗ Q r))
      ⊢ wp frame (wpE (defs₀ (F := F)) 𝒱₀ (thr d L) none) Set.univ
        (k0_part6 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t x y) Q := by
  rw [k0_part6_eq_skeleton]
  refine BIBase.Entails.trans ?_ (wp_row hD (O := O) (W := W) (b := 5) (b' := 4) (i := 7 * t.val + 4) (by omega) (cond8_iff t) rfl rfl
    (k0_off3_eq L t ⟨5, by decide⟩) rfl (k0_off7_eq L t ⟨4, by decide⟩) rfl (k0_off12_eq t))
  unfold RowPre RowPost
  iintro ⟨Hmw, ⟨HO, Hb, Hb', Hp, Hd⟩, Hk⟩
  isplitl [Hmw]; · iexact Hmw
  isplitl [HO]; · iexact HO
  isplitl [Hb]; · iexact Hb
  isplitl [Hb']; · iexact Hb'
  isplitl [Hp]; · iexact Hp
  isplitl [Hd]; · iexact Hd
  iintro H
  rw [wp_pure]
  imodintro
  iapply Hk; iexact H

/-! ## A trip of the ring's loop -/

/-- Slot 6 as trip `t` finds it: idle at the first, and being written to row `7 * t - 1` at a later one. -/
def First (d : Dev nD) (L : grid0.Coords) (D : Data F) (t : ℕ) : sProp 𝕄 :=
  if t = 0 then Idle d L D 6 (gs 6) (ws 6) else Writing d L D 6 (gs 6) (ws 6) (7 * t - 1)

/-- A trip's first row: row `7 * t` is written out of slot 0; slot 6's write is awaited if one is running; and slot 6 is
    filled with row `7 * t + 6`, if there is one. -/
theorem wp_first (hD : D.Good (col L)) {O : CellTallies nD τ sig (HIx 1)} {W : Waits sig (HIx 1)} (t : ℕ) (ht : 7 * t < 50)
    {c1 c2 c3 : Prop} [Decidable c1] [Decidable c2] [Decidable c3] (hc1 : c1 ↔ t ≠ 0) (hc2 : c2 ↔ 7 * t + 6 < 50) (hc3 : c3 ↔ t = 0)
    {o1 o2 o3 o4 o5 o6 o7 : Fin 3 → ℕ} {i6 i7 : Fin 2 → ℕ} (e2 : o2 = ![0, 0, 0]) (e3 : o3 = ![7 * t, col L, 0])
    (e6 : o6 = ![6, 0, 0]) (e7 : o7 = ![6, 0, 0]) (ei6 : i6 = ![7 * t + 6, 0]) (ei7 : t = 0 → i7 = ![7 * t + 6, 0])
    {h1 : ∀ a, o1 a + S1x128x128.size a ≤ S7x128x128.size a} {h2 : ∀ a, o2 a + S1x128x128.size a ≤ S7x128x128.size a}
    {h3 : ∀ a, o3 a + S1x128x128.size a ≤ S50x4096x128.size a}
    {h4 : ∀ a, o4 a + S1x128x128.size a ≤ S7x128x128.size a} {h5 : c1 → ∀ a, o5 a + S1x128x128.size a ≤ S50x4096x128.size a}
    {h6 : ∀ a, o6 a + S1x128x128.size a ≤ S7x128x128.size a} {h7 : ∀ a, o7 a + S1x128x128.size a ≤ S7x128x128.size a}
    {hi6 : c1 → c2 → ∀ a, i6 a + S1x128.size a ≤ S50x128.size a} {hi7 : c3 → ∀ a, i7 a + S1x128.size a ≤ S50x128.size a}
    {w1 : tblAt.view.WordExact} {w2 : (slotAt o1 h1).view.WordExact} {w3 : (slotAt o2 h2).view.WordExact} {w4 : (outAt o3 h3).view.WordExact}
    {ty : DmaTarget.Typed (nD := nD) (p := (thr d L).2) .vmem (.dma (ws 0)) (.here (outAt o3 h3))}
    {w5 : (slotAt o4 h4).view.WordExact} {w6 : ∀ h : c1, (outAt o5 (h5 h)).view.WordExact}
    {hp hp' : (thr d L).2.kind = .scVector} {hn hn' : S128.numel = S128x128.size gathers_S100000x128_S128x128.axis'}
    {hsrc hsrc' : tblAt.view.WordExact} {he he' : EltTy.f32.bits = 32} {hsp hsp' : Space.hbm = .hbm ∨ Space.hbm = .shared} {hr hr' : S100000x128.StreamRows 0}
    {α : Type} {Q : α → sProp 𝕄} {k : PUnit → Prog (TpuEff nD τ sig (Elt F) Λ₀ (thr d L).2) α} :
    iprop(Transfers.MayWaits (thr d L) (default : HIx 1) O
        ∗ (OW d L O W ∗ Next d L D 0 (7 * t) ∗ First d L D t ∗ pend d L D (7 * t) ∗ done d L D (7 * t - 1))
        ∗ (iprop(OW d L O W ∗ Writing d L D 0 (gs 0) (ws 0) (7 * t) ∗ Next d L D 6 (7 * t + 6) ∗ pend d L D (7 * t + 1) ∗ done d L D (7 * t))
            -∗ wp frame (wpE (defs₀ (F := F)) 𝒱₀ (thr d L) none) Set.univ (k ⟨⟩) Q))
      ⊢ wp frame (wpE (defs₀ (F := F)) 𝒱₀ (thr d L) none) Set.univ
        (SparseCore.waitIndirectGather (gs 0) tblAt (slotAt o1 h1) w1 w2 >>= fun _ =>
          Prog.lift (.enqueueDma (slotAt o2 h2) (.here (outAt o3 h3)) (.dma (ws 0)) w3 w4 ty) >>= fun _ =>
          if h : c1 then
            Prog.lift (.waitDma2 (ws 6) (slotAt o4 h4) (outAt o5 (h5 h)) w5 (w6 h)) >>= fun _ =>
              if h' : c2 then SparseCore.enqueueIndirectGather hp tblAt (slotAt o6 h6) gathers_S100000x128_S128x128 (rowAt i6 (hi6 h h')) hn (gs 6) hsrc he hsp hr >>= fun _ =>
                if h'' : c3 then SparseCore.enqueueIndirectGather hp' tblAt (slotAt o7 h7) gathers_S100000x128_S128x128 (rowAt i7 (hi7 h'')) hn' (gs 6) hsrc' he' hsp' hr' >>= k
                else k ⟨⟩
              else if h'' : c3 then SparseCore.enqueueIndirectGather hp' tblAt (slotAt o7 h7) gathers_S100000x128_S128x128 (rowAt i7 (hi7 h'')) hn' (gs 6) hsrc' he' hsp' hr' >>= k
                else k ⟨⟩
          else if h'' : c3 then SparseCore.enqueueIndirectGather hp' tblAt (slotAt o7 h7) gathers_S100000x128_S128x128 (rowAt i7 (hi7 h'')) hn' (gs 6) hsrc' he' hsp' hr' >>= k
            else k ⟨⟩) Q := by
  rw [show Next d L D 0 (7 * t) = Filling d L D 0 (gs 0) (ws 0) (7 * t) from if_pos ht, pend_take d L D ht]
  iintro ⟨#Hmw, ⟨HO, Hb, H6, ⟨Hold, Hpend⟩, Hdone⟩, Hk⟩
  iapply (wp_gathered 0 (gs 0) (ws 0) (7 * t)) $$ [-]
  isplitr; · iexact Hmw
  isplitl [Hb]; · iexact Hb
  isplitl [HO]; · iexact HO
  iintro ⟨Hb, HO⟩
  iapply (wp_write 0 (gs 0) (ws 0) (7 * t) e2 e3) $$ [-]
  isplitl [Hb]; · iexact Hb
  isplitl [Hold]; · iexact Hold
  iintro Hb
  by_cases h0 : t = 0
  · rw [dif_neg (fun h => hc1.mp h h0)]
    ihave H6 := (show First d L D t ⊢ Idle d L D 6 (gs 6) (ws 6) by rw [First, if_pos h0]) $$ H6
    iapply (wp_refill hD 6 (7 * t + 6) (c := c3) (hc3.trans (by omega)) e7 (ei7 h0)) $$ [-]
    isplitl [H6]; · iexact H6
    iintro H6
    iapply Hk
    isplitl [HO]; · iexact HO
    isplitl [Hb]; · iexact Hb
    isplitl [H6]; · iexact H6
    isplitl [Hpend]; · iexact Hpend
    rw [h0]
    iexact Hdone
  · rw [dif_pos (hc1.mpr h0)]
    ihave H6 := (show First d L D t ⊢ Writing d L D 6 (gs 6) (ws 6) (7 * t - 1) by rw [First, if_neg h0]) $$ H6
    iapply (wp_written 6 (gs 6) (ws 6) (7 * t - 1)) $$ [-]
    isplitr; · iexact Hmw
    isplitl [H6]; · iexact H6
    isplitl [HO]; · iexact HO
    iintro ⟨H6, Hnew, HO⟩
    simp only [dif_neg (fun h => h0 (hc3.mp h))]
    iapply (wp_refill hD 6 (7 * t + 6) hc2 e6 ei6 (k := fun _ => k ⟨⟩)) $$ [-]
    isplitl [H6]; · iexact H6
    iintro H6
    iapply Hk
    isplitl [HO]; · iexact HO
    isplitl [Hb]; · iexact Hb
    isplitl [H6]; · iexact H6
    isplitl [Hpend]; · iexact Hpend
    rw [show done d L D (7 * t) = iprop(blk d L (7 * t - 1) D.new ∗ done d L D (7 * t - 1)) by rw [← done_add]; congr 1; omega]
    isplitl [Hnew]; · iexact Hnew
    iexact Hdone

theorem cond1_iff (t : Fin k0_t1_loop.trips) : k0_cond1 t = 1#1 ↔ t.val ≠ 0 := by
  revert t; decide +kernel
theorem cond2_iff (t : Fin k0_t1_loop.trips) : k0_cond2 t = 1#1 ↔ 7 * t.val + 6 < 50 := by
  revert t; decide +kernel
theorem cond3_iff (t : Fin k0_t1_loop.trips) : k0_cond3 t = 1#1 ↔ t.val = 0 := by
  revert t; decide +kernel

/-- What trip `t` starts from and what its first row leaves. -/
abbrev FirstPre (d : Dev nD) (L : grid0.Coords) (D : Data F) (O : CellTallies nD τ sig (HIx 1)) (W : Waits sig (HIx 1)) (t : ℕ) : sProp 𝕄 :=
  iprop(OW d L O W ∗ Next d L D 0 (7 * t) ∗ First d L D t ∗ pend d L D (7 * t) ∗ done d L D (7 * t - 1))
abbrev FirstPost (d : Dev nD) (L : grid0.Coords) (D : Data F) (O : CellTallies nD τ sig (HIx 1)) (W : Waits sig (HIx 1)) (t : ℕ) : sProp 𝕄 :=
  iprop(OW d L O W ∗ Writing d L D 0 (gs 0) (ws 0) (7 * t) ∗ Next d L D 6 (7 * t + 6) ∗ pend d L D (7 * t + 1) ∗ done d L D (7 * t))

/-- Trip `t`'s first row. -/
theorem part1 (hD : D.Good (col L)) {O : CellTallies nD τ sig (HIx 1)} {W : Waits sig (HIx 1)} (t : Fin k0_t1_loop.trips) (ht : t.val < 7)
    {Q : ((_ : BitVec 32) ×' BitVec 32) → sProp 𝕄} :
    iprop(Transfers.MayWaits (thr d L) (default : HIx 1) O ∗ FirstPre d L D O W t.val ∗ (∀ r, FirstPost d L D O W t.val -∗ Q r))
      ⊢ wp frame (wpE (defs₀ (F := F)) 𝒱₀ (thr d L) none) Set.univ
        (k0_part1 (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 0#32 1#32 t) Q := by
  rw [k0_part1_eq_skeleton]
  refine BIBase.Entails.trans ?_ (wp_first hD (O := O) (W := W) t.val (by omega) (cond1_iff t) (cond2_iff t) (cond3_iff t)
    rfl (k0_off3_eq L t ⟨0, by decide⟩) rfl rfl (k0_off5_eq t) (fun _ => k0_off6_eq t))
  unfold FirstPre FirstPost
  iintro ⟨Hmw, H, Hk⟩
  isplitl [Hmw]; · iexact Hmw
  isplitl [H]; · iexact H
  iintro H
  rw [wp_pure]
  imodintro
  iapply Hk; iexact H

theorem cond9_iff (t : Fin k0_t1_loop.trips) : k0_cond9 t = 1#1 ↔ 7 * t.val + 5 + 7 < 50 := by
  revert t; decide +kernel

/-- What the loop holds before trip `t`: rows up to `7 * t - 1` done, the rows from `7 * t` on to do, the first six slots
    being filled with the next six rows, if there are so many, and slot 6's write running. -/
def Inv (d : Dev nD) (L : grid0.Coords) (D : Data F) (O : CellTallies nD τ sig (HIx 1)) (W : Waits sig (HIx 1)) (t : ℕ) : sProp 𝕄 :=
  iprop(FirstPre d L D O W t ∗ Next d L D 1 (7 * t + 1) ∗ Next d L D 2 (7 * t + 2) ∗ Next d L D 3 (7 * t + 3) ∗ Next d L D 4 (7 * t + 4) ∗ Next d L D 5 (7 * t + 5))

/-- A trip of the loop. -/
theorem trip (hD : D.Good (col L)) {O : CellTallies nD τ sig (HIx 1)} {W : Waits sig (HIx 1)} (t : Fin k0_t1_loop.trips) (ht : t.val < 7) :
    iprop(Transfers.MayWaits (thr d L) (default : HIx 1) O ∗ Inv d L D O W t.val)
      ⊢ wp frame (wpE (defs₀ (F := F)) 𝒱₀ (thr d L) none) Set.univ
        (k0_t1_body (F := F) L (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0 t ())
        (fun _ => Inv d L D O W (t.val + 1)) := by
  unfold Inv k0_t1_body
  iintro ⟨#Hmw, H, H1, H2, H3, H4, H5⟩
  rw [wp_bind]
  iapply (part1 hD t ht) $$ [-]
  isplitr; · iexact Hmw
  isplitl [H]; · iexact H
  iintro %r ⟨HO, Hw, H6, Hp, Hd⟩
  rw [wp_bind]
  iapply (part2 hD (O := O) (W := W) t ht) $$ [-]
  isplitr; · iexact Hmw
  isplitl [HO Hw H1 Hp Hd]
  · unfold RowPre
    isplitl [HO]; · iexact HO
    isplitl [H1]; · iexact H1
    isplitl [Hw]; · iexact Hw
    isplitl [Hp]; · iexact Hp
    iexact Hd
  iintro %_ ⟨HO, Hw, H0, Hp, Hd⟩
  rw [wp_bind]
  iapply (part3 hD (O := O) (W := W) t ht) $$ [-]
  isplitr; · iexact Hmw
  isplitl [HO Hw H2 Hp Hd]
  · unfold RowPre
    isplitl [HO]; · iexact HO
    isplitl [H2]; · iexact H2
    isplitl [Hw]; · iexact Hw
    isplitl [Hp]; · iexact Hp
    iexact Hd
  iintro %_ ⟨HO, Hw, H1, Hp, Hd⟩
  rw [wp_bind]
  iapply (part4 hD (O := O) (W := W) t ht) $$ [-]
  isplitr; · iexact Hmw
  isplitl [HO Hw H3 Hp Hd]
  · unfold RowPre
    isplitl [HO]; · iexact HO
    isplitl [H3]; · iexact H3
    isplitl [Hw]; · iexact Hw
    isplitl [Hp]; · iexact Hp
    iexact Hd
  iintro %_ ⟨HO, Hw, H2, Hp, Hd⟩
  rw [wp_bind]
  iapply (part5 hD (O := O) (W := W) t ht) $$ [-]
  isplitr; · iexact Hmw
  isplitl [HO Hw H4 Hp Hd]
  · unfold RowPre
    isplitl [HO]; · iexact HO
    isplitl [H4]; · iexact H4
    isplitl [Hw]; · iexact Hw
    isplitl [Hp]; · iexact Hp
    iexact Hd
  iintro %_ ⟨HO, Hw, H3, Hp, Hd⟩
  rw [wp_bind]
  iapply (part6 hD (O := O) (W := W) t ht) $$ [-]
  isplitr; · iexact Hmw
  isplitl [HO Hw H5 Hp Hd]
  · unfold RowPre
    isplitl [HO]; · iexact HO
    isplitl [H5]; · iexact H5
    isplitl [Hw]; · iexact Hw
    isplitl [Hp]; · iexact Hp
    iexact Hd
  iintro %_ ⟨HO, Hw, H4, Hp, Hd⟩
  iapply (wp_row hD (O := O) (W := W) (b := 6) (b' := 5) (i := 7 * t.val + 5) (by omega) (cond9_iff t) rfl rfl
    (k0_off3_eq L t ⟨6, by decide⟩) rfl (k0_off7_eq L t ⟨5, by decide⟩) rfl (k0_off13_eq t)) $$ [-]
  isplitr; · iexact Hmw
  isplitl [HO]; · iexact HO
  isplitl [H6]; · iexact H6
  isplitl [Hw]; · iexact Hw
  isplitl [Hp]; · iexact Hp
  isplitl [Hd]; · iexact Hd
  iintro ⟨HO, Hw, H5, Hp, Hd⟩
  rw [wp_pure]
  imodintro
  unfold FirstPre First
  rw [if_neg (Nat.succ_ne_zero _)]
  isplitl [HO H0 Hw Hp Hd]
  · isplitl [HO]; · iexact HO
    isplitl [H0]; · iexact H0
    isplitl [Hw]; · iexact Hw
    isplitl [Hp]; · iexact Hp
    iexact Hd
  isplitl [H1]; · iexact H1
  isplitl [H2]; · iexact H2
  isplitl [H3]; · iexact H3
  isplitl [H4]; · iexact H4
  iexact H5

end Cert.KernelIdeal.Lookup

end
-- ==== Proof.Ideal.Task.lean ====
/-
  One vector subcore's whole task, from the share of the list and of the table it is handed and its columns of the
  result to those columns written.
-/
module

public import proofs.«01_k».proof.Proof.Ideal.Body

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable {d : Dev nD} {L : grid0.Coords} {D : Data F}

/-! ## The loop -/

theorem trips_eq : k0_t1_loop.trips = 7 := by decide +kernel

/-- The ring's loop, from its state before trip 0 to its state after the last. -/
theorem wp_loop (hD : D.Good (col L)) {O : CellTallies nD τ sig (HIx 1)} {W : Waits sig (HIx 1)} {Q : Unit → sProp 𝕄} :
    iprop(Transfers.MayWaits (thr d L) (default : HIx 1) O ∗ Inv d L D O W 0 ∗ (∀ r, Inv d L D O W 7 -∗ Q r))
      ⊢ wp frame (wpE (defs₀ (F := F)) 𝒱₀ (thr d L) none) Set.univ
        (Scf.Loop.for k0_t1_loop k0_t1_ok () (k0_t1_body (F := F) L (Memref.whole main_v0_scv) (Memref.isWhole_whole _) (Memref.whole main_arg1_scv) (Memref.isWhole_whole _)
          (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0)) Q := by
  iintro ⟨#Hmw, H, Hk⟩
  iapply (Scf.wp_for frame (wpE (defs₀ (F := F)) 𝒱₀ (thr d L) none) Set.univ k0_t1_loop.lb k0_t1_loop.ub k0_t1_loop.st k0_t1_ok () _
    (fun n _ => iprop(Transfers.MayWaits (thr d L) (default : HIx 1) O ∗ Inv d L D O W n)) (fun t _ => by
      iintro ⟨#Hmw, H⟩
      iapply (wp_wand_r frame (wpE (defs₀ (F := F)) 𝒱₀ (thr d L) none) Set.univ)
      isplitl [H]
      · iapply (trip hD t (lt_of_lt_of_eq t.isLt trips_eq))
        isplitr; · iexact Hmw
        iexact H
      iintro %_ H
      isplitr; · iexact Hmw
      iexact H)) $$ [-]
  isplitl [H]
  · isplitr; · iexact Hmw
    iexact H
  iintro %r ⟨-, H⟩
  iapply Hk
  iapply (Entails.of_eq (by rw [← trips_eq])) $$ H

/-! ## The fetch of the list -/

/-- The list in HBM as the subcore's copy names it: its 128 columns of every row. -/
abbrev listAt (L : grid0.Coords) (off : Fin 2 → ℕ) (h : ∀ a, off a + S50x128.size a ≤ S50x4096.size a) : Memref sig .scVector .hbm S50x128 .i32 :=
  (Memref.whole main_v0_scv).slice (Rect.unit (s := S50x4096) off S50x128.size h) (fun _ => rfl)

abbrev sLoc (d : Dev nD) (L : grid0.Coords) : Loc nD τ sig := (thr d L).loc main_v0_scv

/-- Fetching the subcore's columns of the list and waiting for them. -/
theorem wp_fetch {O : CellTallies nD τ sig (HIx 1)} {W : Waits sig (HIx 1)} {q : PosShare TreeShare} {tok : S50x4096.Idx → Elt F .i32}
    (hl : ∀ (i : S50x128.Idx) (y : S50x4096.Idx), (y 0).val = (i 0).val → (y 1).val = col L + (i 1).val → tok y = D.lst i)
    {f : S50x128.Idx → Elt F .i32} {o1 o2 : Fin 2 → ℕ} (e1 : o1 = ![0, col L])
    {h1 : ∀ a, o1 a + S50x128.size a ≤ S50x4096.size a} {h2 : ∀ a, o2 a + S50x128.size a ≤ S50x4096.size a}
    {w1 : (listAt L o1 h1).view.WordExact} {w2 w4 : (Memref.whole cc0_scratch0).view.WordExact} {w3 : (listAt L o2 h2).view.WordExact}
    {ty : DmaTarget.Typed (nD := nD) (p := (thr d L).2) .hbm (.dma cc0_scoped0.sem) (.here (Memref.whole cc0_scratch0))}
    {α : Type} {Q : α → sProp 𝕄} {k : PUnit → Prog (TpuEff nD τ sig (Elt F) Λ₀ (thr d L).2) α} :
    iprop(Transfers.MayWaits (thr d L) (default : HIx 1) O ∗ OW d L O W ∗ (sLoc d L ↦{q} tok) ∗ (lLoc d L ↦{fullShare} f) ∗ cell d L cc0_scoped0.sem
        ∗ (iprop(OW d L O W ∗ (sLoc d L ↦{q} tok) ∗ (lLoc d L ↦{fullShare} D.lst) ∗ cell d L cc0_scoped0.sem)
            -∗ wp frame (wpE (defs₀ (F := F)) 𝒱₀ (thr d L) none) Set.univ (k ⟨⟩) Q))
      ⊢ wp frame (wpE (defs₀ (F := F)) 𝒱₀ (thr d L) none) Set.univ
        (Prog.lift (.enqueueDma (listAt L o1 h1) (.here (Memref.whole cc0_scratch0)) (.dma cc0_scoped0.sem) w1 w2 ty) >>= fun _ =>
          Prog.lift (.waitDma2 cc0_scoped0.sem (listAt L o2 h2) (Memref.whole cc0_scratch0) w3 w4) >>= k) Q := by
  change _ ⊢ wp frame (wpE (defs₀ (F := F)) 𝒱₀ (thr d L) none) Set.univ
    (.op (.enqueueDmaAs (listAt L o1 h1) (.here (Memref.whole cc0_scratch0)) .same (.dma cc0_scoped0.sem) w1 w2 ty) fun _ =>
      .op (.waitDma2 cc0_scoped0.sem (listAt L o2 h2) (Memref.whole cc0_scratch0) w3 w4) k) Q
  have hread : (listAt L o1 h1).view.read (Elt F) tok = D.lst := by
    funext i
    rw [View.read_apply]
    refine (cast_eq _ _).trans ?_
    refine hl i _ ?_ ?_
    · subst e1; show 0 + 1 * (i 0).val = (i 0).val; omega
    · subst e1; show col L + 1 * (i 1).val = col L + (i 1).val; omega
  unfold OW
  iintro ⟨#Hmw, ⟨%W', %hW, HO⟩, Hs, Hl, Hc, Hk⟩
  ihave Hs' := (pointsTo_split_subset (Finset.subset_univ (listAt L o1 h1).view.set)).1 $$ Hs
  icases Hs' with ⟨Hs, Hsr⟩
  iapply (Transfers.wp_dmaLocal countersEmb 𝒱₀ (thr d L) none (src := listAt L o1 h1) (dst := Memref.whole cc0_scratch0) (q := q) (fs := tok) (fd := f)
      (Sd := Finset.univ) (default : HIx 1) ((Memref.whole cc0_scratch0).view.dmaCredit) rfl (by decide) (Finset.subset_univ _)) $$ [Hs Hl Hc]
  · isplitl [Hs]; · iexact Hs
    isplitl [Hl]; · iexact Hl
    iexact Hc
  iintro Hfl
  iapply (Transfers.wp_waitLocalO countersEmb 𝒱₀ (thr d L) none (srcw := listAt L o2 h2) (dstw := Memref.whole cc0_scratch0) (default : HIx 1)
    (N := (Memref.whole cc0_scratch0).view.dmaCredit) rfl) $$ [Hfl HO]
  · isplitl [Hfl]; · iexact Hfl
    isplitl [HO]; · iexact HO
    iapply (Transfers.MayWaits.elim (SemLoc.dma cc0_scoped0.sem)) $$ Hmw
  iintro ⟨⟨Hl, Hs⟩, Hc, HO⟩
  iapply Hk
  isplitl [HO]
  · iexists _; isplitr
    swap; · iexact HO
    ipureintro; intro p hp
    rcases Finset.mem_insert.mp hp with hp | hp
    · exact .inr (hp ▸ rfl)
    · exact hW p hp
  isplitl [Hs Hsr]
  · iapply (pointsTo_split_subset (Finset.subset_univ (listAt L o1 h1).view.set)).2
    isplitl [Hs] <;> iassumption
  isplitl [Hl]
  · iapply (Entails.of_eq (by rw [View.write_whole_univ, ReadAs.apply_same, hread])) $$ Hl
  iexact Hc

/-! ## The task's memory, cut for the ring and joined again -/

/-- The subcore's 128 columns of the result. -/
def colSet (c : ℕ) : Finset S50x4096x128.Idx := Finset.univ.filter fun y => c ≤ (y 1).val ∧ (y 1).val < c + 128
omit [FloatOps F] in
theorem mem_colSet {c : ℕ} {y : S50x4096x128.Idx} : y ∈ colSet c ↔ c ≤ (y 1).val ∧ (y 1).val < c + 128 := by simp [colSet]

omit [FloatOps F] in
/-- A subcore's columns of the result are its blocks of the 50 rows. -/
theorem cols_rows (f : S50x4096x128.Idx → Elt F .f32) :
    (uLoc d L ↦[colSet (col L)]{fullShare} f : sProp 𝕄) = bigSep (Finset.range 50) fun j => blk d L j f := by
  rw [show colSet (col L) = (Finset.range 50).biUnion (blkSet (col L)) from ?_]
  · exact pointsTo_biUnion (ℓ := uLoc d L) (Finset.range 50) (blkSet (col L)) fun i _ j _ hij =>
      Finset.disjoint_left.mpr fun y hi hj => hij ((mem_blkSet.mp hi).1.symm.trans (mem_blkSet.mp hj).1)
  · ext y
    have hy : (y 0).val < 50 := (y 0).isLt
    simp only [mem_colSet, Finset.mem_biUnion, Finset.mem_range, mem_blkSet]
    exact ⟨fun h => ⟨_, hy, rfl, h⟩, fun ⟨_, _, _, h⟩ => h⟩

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem planes_disjoint : ∀ i ∈ (Finset.univ : Finset (Fin 7)), ∀ j ∈ (Finset.univ : Finset (Fin 7)), i ≠ j → Disjoint (planeSet i.val) (planeSet j.val) :=
  fun _ _ _ _ hij => Finset.disjoint_left.mpr fun _ hi hj => hij (Fin.ext ((mem_planeSet.mp hi).symm.trans (mem_planeSet.mp hj)))
omit [FloatOps F] in
theorem planes_cover : (Finset.univ : Finset (Fin 7)).biUnion (fun b => planeSet b.val) = Finset.univ := by
  ext x
  simp only [Finset.mem_biUnion, Finset.mem_univ, true_and, mem_planeSet, iff_true]
  exact ⟨x 0, rfl⟩

omit [FloatOps F] in
/-- The ring's buffer is its seven planes. -/
theorem ring_cut (f : S7x128x128.Idx → Elt F .f32) :
    (rLoc d L ↦{fullShare} f : sProp 𝕄) ⊢ bigSep Finset.univ fun b : Fin 7 => iprop(∃ f, plane d L b f) := by
  rw [show (rLoc d L ↦{fullShare} f : sProp 𝕄) = bigSep Finset.univ fun b : Fin 7 => plane d L b f by
    rw [← pointsTo_biUnion (ℓ := rLoc d L) Finset.univ (fun b : Fin 7 => planeSet b.val) planes_disjoint, planes_cover]]
  have key : ∀ b : Fin 7, (plane d L b f : sProp 𝕄) ⊢ iprop(∃ f, plane d L b f) := fun b => by
    iintro H; iexists f; iexact H
  exact bigSep_mono fun b _ => key b
omit [FloatOps F] in
theorem ring_join : (bigSep Finset.univ fun b : Fin 7 => iprop(∃ f, plane (F := F) d L b f)) ⊢ (iprop(∃ f, rLoc d L ↦{fullShare} f) : sProp 𝕄) := by
  by_cases hne : Nonempty (S7x128x128.Idx → Elt F .f32)
  · refine (bigSep_exists_pi Finset.univ (fun b (f : S7x128x128.Idx → Elt F .f32) => plane (F := F) d L b f)).trans ?_
    iintro ⟨%fs, H⟩
    ihave H' := (pointsTo_biUnion_join (ℓ := rLoc d L) (q := fullShare) (Val := Elt F) Finset.univ (fun b : Fin 7 => planeSet b.val) fs (fs 0) planes_disjoint) $$ H
    icases H' with ⟨%g, -, Hg⟩
    rw [planes_cover]
    iexists g; iexact Hg
  · rw [bigSep_seven]
    iintro ⟨⟨%f, -⟩, -⟩
    exact absurd ⟨f⟩ hne

/-- The seven slots, all idle: the ring's buffer, the shares of the table and of the list, and the fourteen semaphores. -/
def Ring (d : Dev nD) (L : grid0.Coords) (D : Data F) : sProp 𝕄 := bigSep Finset.univ fun b : Fin 7 => Idle d L D b (gs b) (ws b)

omit [FloatOps F] in
theorem Ring_eq : Ring d L D = iprop((bigSep Finset.univ fun b : Fin 7 => iprop(∃ f, plane (F := F) d L b f))
    ∗ (tLoc d L ↦[tblAt.view.set]{D.q} D.tab) ∗ (lLoc d L ↦{fullShare} D.lst)
    ∗ (bigSep Finset.univ fun b : Fin 7 => cell (F := F) d L (gs b)) ∗ bigSep Finset.univ fun b : Fin 7 => cell (F := F) d L (ws b)) := by
  unfold Ring Idle
  rw [bigSep_sep', bigSep_sep', bigSep_sep', bigSep_sep', ← pointsTo_piecesOf, ← pointsTo_piecesOf]

omit [FloatOps F] in
theorem pend_zero : pend d L D 0 = (uLoc d L ↦[colSet (col L)]{fullShare} D.old : sProp 𝕄) := by
  rw [cols_rows, pend, ← Finset.range_eq_Ico]
omit [FloatOps F] in
theorem done_all : done d L D 50 = (uLoc d L ↦[colSet (col L)]{fullShare} D.new : sProp 𝕄) := by
  rw [cols_rows, done]
omit [FloatOps F] in
theorem done_zero : done d L D 0 = (iprop(emp) : sProp 𝕄) := by
  rw [done, Finset.range_zero, bigSep_empty]; rfl
omit [FloatOps F] in
theorem pend_last : pend d L D 50 = (iprop(emp) : sProp 𝕄) := by
  rw [pend, Finset.Ico_self, bigSep_empty]; rfl

omit [FloatOps F] in
theorem filling_next {b : Fin 7} {j : ℕ} (h : j < 50) : Filling d L D b (gs b) (ws b) j ⊢ Next d L D b j := by rw [Next, if_pos h]
omit [FloatOps F] in
theorem next_idle {b : Fin 7} {j : ℕ} (h : ¬ j < 50) : Next d L D b j ⊢ Idle d L D b (gs b) (ws b) := by rw [Next, if_neg h]

/-- What the task works with, its columns of the result at contents `g`: its share of the list and of the table, its
    two buffers and its fifteen semaphores. -/
def Hold (d : Dev nD) (L : grid0.Coords) (D : Data F) (q : PosShare TreeShare) (tok : S50x4096.Idx → Elt F .i32) (g : S50x4096x128.Idx → Elt F .f32) : sProp 𝕄 :=
  iprop((sLoc d L ↦{q} tok) ∗ (tLoc d L ↦{D.q} D.tab) ∗ (uLoc d L ↦[colSet (col L)]{fullShare} g)
    ∗ (∃ f, lLoc d L ↦{fullShare} f) ∗ (∃ f, rLoc d L ↦{fullShare} f)
    ∗ (bigSep Finset.univ fun b : Fin 7 => cell (F := F) d L (gs b)) ∗ (bigSep Finset.univ fun b : Fin 7 => cell (F := F) d L (ws b))
    ∗ cell (F := F) d L cc0_scoped0.sem)

/-- The task: from its columns of the result as they were to its columns as they are to be. -/
theorem wp_task (hD : D.Good (col L)) {O : CellTallies nD τ sig (HIx 1)} {W : Waits sig (HIx 1)} {q : PosShare TreeShare} {tok : S50x4096.Idx → Elt F .i32}
    (hl : ∀ (i : S50x128.Idx) (y : S50x4096.Idx), (y 0).val = (i 0).val → (y 1).val = col L + (i 1).val → tok y = D.lst i) :
    iprop(Transfers.MayWaits (thr d L) (default : HIx 1) O ∗ OW d L O W ∗ Hold d L D q tok D.old)
      ⊢ wp frame (wpE (defs₀ (F := F)) 𝒱₀ (thr d L) none) Set.univ
        (cc0__gather_body (F := F) L (Memref.whole main_v0_scv) (Memref.isWhole_whole _) (Memref.whole main_arg1_scv) (Memref.isWhole_whole _)
          (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0)
        fun _ => iprop(OW d L O W ∗ Hold d L D q tok D.new) := by
  rw [cc0__gather_body_eq_skeleton]
  unfold cc0__gather_body_skel Hold
  rw [k0_part7_eq_skeleton, k0_part8_eq_skeleton]
  unfold k0_part7_skel k0_part8_skel
  iintro ⟨#Hmw, HO, Hs, Ht, Hu, ⟨%fl, Hl⟩, ⟨%fr, Hr⟩, Hg, Hw, Hc⟩
  rw [wp_bind]
  iapply (wp_fetch hl (k0_off1_eq L)) $$ [-]
  isplitr; · iexact Hmw
  isplitl [HO]; · iexact HO
  isplitl [Hs]; · iexact Hs
  isplitl [Hl]; · iexact Hl
  isplitl [Hc]; · iexact Hc
  iintro ⟨HO, Hs, Hl, Hc⟩
  ihave Ht' := (pointsTo_split_subset (Finset.subset_univ tblAt.view.set)).1 $$ Ht
  icases Ht' with ⟨Ht, Htr⟩
  ihave HR := (show iprop((rLoc d L ↦{fullShare} fr) ∗ (tLoc d L ↦[tblAt.view.set]{D.q} D.tab) ∗ (lLoc d L ↦{fullShare} D.lst)
      ∗ (bigSep Finset.univ fun b : Fin 7 => cell (F := F) d L (gs b)) ∗ bigSep Finset.univ fun b : Fin 7 => cell (F := F) d L (ws b)) ⊢ Ring d L D by
    rw [Ring_eq]; exact sep_mono_left (ring_cut fr)) $$ [Hr Ht Hl Hg Hw]
  · isplitl [Hr]; · iexact Hr
    isplitl [Ht]; · iexact Ht
    isplitl [Hl]; · iexact Hl
    isplitl [Hg]; · iexact Hg
    iexact Hw
  unfold Ring
  ihave HR' := (Entails.of_eq (bigSep_seven _)) $$ HR
  icases HR' with ⟨H0, H1, H2, H3, H4, H5, H6⟩
  iapply (wp_gather hD 0 (gs 0) (ws 0) 0 rfl rfl) $$ [-]
  isplitl [H0]; · iexact H0
  iintro H0
  iapply (wp_gather hD 1 (gs 1) (ws 1) 1 rfl rfl) $$ [-]
  isplitl [H1]; · iexact H1
  iintro H1
  iapply (wp_gather hD 2 (gs 2) (ws 2) 2 rfl rfl) $$ [-]
  isplitl [H2]; · iexact H2
  iintro H2
  rw [wp_pure, wp_bind]
  imodintro
  iapply (wp_gather hD 3 (gs 3) (ws 3) 3 rfl rfl) $$ [-]
  isplitl [H3]; · iexact H3
  iintro H3
  iapply (wp_gather hD 4 (gs 4) (ws 4) 4 rfl rfl) $$ [-]
  isplitl [H4]; · iexact H4
  iintro H4
  iapply (wp_gather hD 5 (gs 5) (ws 5) 5 rfl rfl) $$ [-]
  isplitl [H5]; · iexact H5
  iintro H5
  rw [wp_bind]
  iapply (wp_loop hD (O := O) (W := W)) $$ [-]
  isplitr; · iexact Hmw
  isplitl [HO H0 H1 H2 H3 H4 H5 H6 Hu]
  · unfold Inv FirstPre First
    rw [if_pos rfl]
    isplitl [HO H0 H6 Hu]
    · isplitl [HO]; · iexact HO
      isplitl [H0]; · iapply (filling_next (by decide)) $$ H0
      isplitl [H6]; · iexact H6
      isplitl [Hu]; · iapply (Entails.of_eq pend_zero.symm) $$ Hu
      iapply (Entails.of_eq done_zero.symm)
      iempintro
    isplitl [H1]; · iapply (filling_next (by decide)) $$ H1
    isplitl [H2]; · iapply (filling_next (by decide)) $$ H2
    isplitl [H3]; · iapply (filling_next (by decide)) $$ H3
    isplitl [H4]; · iapply (filling_next (by decide)) $$ H4
    iapply (filling_next (by decide)) $$ H5
  iintro %_ H
  unfold Inv FirstPre First
  rw [if_neg (by decide)]
  icases H with ⟨⟨HO, H0, H6, Hp, Hd⟩, H1, H2, H3, H4, H5⟩
  ihave H0 := (show Next d L D 0 (7 * 7) ⊢ Filling d L D 0 (gs 0) (ws 0) 49 by rw [Next, if_pos (by decide)]) $$ H0
  ihave Hp := (show pend d L D (7 * 7) ⊢ blk d L 49 D.old by rw [show 7 * 7 = 49 from rfl, pend_take d L D (by decide), pend_last]; exact sep_elim_left) $$ Hp
  iapply (wp_gathered 0 (gs 0) (ws 0) 49) $$ [-]
  isplitr; · iexact Hmw
  isplitl [H0]; · iexact H0
  isplitl [HO]; · iexact HO
  iintro ⟨H0, HO⟩
  rw [wp_pure]
  imodintro
  iapply (wp_write 0 (gs 0) (ws 0) 49 rfl (k0_off14_eq L)) $$ [-]
  isplitl [H0]; · iexact H0
  isplitl [Hp]; · iexact Hp
  iintro H0
  iapply (wp_written 6 (gs 6) (ws 6) 48) $$ [-]
  isplitr; · iexact Hmw
  isplitl [H6]; · iexact H6
  isplitl [HO]; · iexact HO
  iintro ⟨H6, Hb48, HO⟩
  iapply (wp_written 0 (gs 0) (ws 0) 49) $$ [-]
  isplitr; · iexact Hmw
  isplitl [H0]; · iexact H0
  isplitl [HO]; · iexact HO
  iintro ⟨H0, Hb49, HO⟩
  rw [wp_pure]
  imodintro
  ihave Hu := (show iprop(blk d L 49 D.new ∗ blk d L 48 D.new ∗ done d L D (7 * 7 - 1)) ⊢ (uLoc d L ↦[colSet (col L)]{fullShare} D.new : sProp 𝕄) by
    rw [← done_all, done_add d L D 49, done_add d L D 48]) $$ [Hb49 Hb48 Hd]
  · isplitl [Hb49]; · iexact Hb49
    isplitl [Hb48] <;> iassumption
  ihave HR := (Entails.of_eq (show iprop(Idle d L D 0 (gs 0) (ws 0) ∗ Idle d L D 1 (gs 1) (ws 1) ∗ Idle d L D 2 (gs 2) (ws 2) ∗ Idle d L D 3 (gs 3) (ws 3)
      ∗ Idle d L D 4 (gs 4) (ws 4) ∗ Idle d L D 5 (gs 5) (ws 5) ∗ Idle d L D 6 (gs 6) (ws 6)) = Ring d L D by rw [Ring, bigSep_seven])) $$ [H0 H1 H2 H3 H4 H5 H6]
  · isplitl [H0]; · iexact H0
    isplitl [H1]; · iapply (next_idle (by decide)) $$ H1
    isplitl [H2]; · iapply (next_idle (by decide)) $$ H2
    isplitl [H3]; · iapply (next_idle (by decide)) $$ H3
    isplitl [H4]; · iapply (next_idle (by decide)) $$ H4
    isplitl [H5]; · iapply (next_idle (by decide)) $$ H5
    iexact H6
  ihave HR' := (Entails.of_eq Ring_eq) $$ HR
  icases HR' with ⟨Hr, Ht, Hl, Hg, Hw⟩
  isplitl [HO]; · iexact HO
  isplitl [Hs]; · iexact Hs
  isplitl [Ht Htr]
  · iapply (pointsTo_split_subset (Finset.subset_univ tblAt.view.set)).2
    isplitl [Ht] <;> iassumption
  isplitl [Hu]; · iexact Hu
  isplitl [Hl]; · iexists _; iexact Hl
  isplitl [Hr]; · iapply ring_join; iexact Hr
  isplitl [Hg]; · iexact Hg
  isplitl [Hw]; · iexact Hw
  iexact Hc

end Cert.KernelIdeal.Lookup

end
-- ==== Proof.Ideal.Launch.lean ====
/-
  The whole program: the list of tokens turned on its side, the launch of the 32 vector subcores, and the result turned
  back. `run_main` states what every final state holds.
-/
module

public import proofs.«01_k».proof.Proof.Ideal.Task
public import Idealize.ShloMosaic.Lib.Pipeline.Value
public import Idealize.ShloMosaic.Lib.ValueIdxCore
public import Idealize.SL.ProofMode.BigOp

@[expose] public section

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.ShloMosaic.StableHlo
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The program as the launch theorem takes it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev bodies : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays and what they hold -/

variable (m : (ℓ : Loc nD τ sig) → Buf (Elt F) ℓ) (ρ : Dev nD → PrngReg)

abbrev tokLoc (d : Dev nD) : Loc nD τ sig := (SparseCore.T d).loc main_arg0
abbrev tabLoc (d : Dev nD) : Loc nD τ sig := (SparseCore.T d).loc main_arg1
abbrev sideLoc (d : Dev nD) : Loc nD τ sig := (SparseCore.T d).loc main_v0
abbrev rawLoc (d : Dev nD) : Loc nD τ sig := (SparseCore.T d).loc main_v1
abbrev resLoc (d : Dev nD) : Loc nD τ sig := (SparseCore.T d).loc main_v2

/-- The tokens, turned on their side. -/
def side (d : Dev nD) : S50x4096.Idx → Elt F .i32 := transpose S50x4096 [1, 0] (m (tokLoc d)) transposes_S4096x50_S50x4096_1_0
/-- At `(r, c, k)`, column `k` of the row of the table that token `(r, c)` of the turned tokens names. -/
def raw (d : Dev nD) : S50x4096x128.Idx → Elt F .f32 :=
  fun y => m (tabLoc d) (ix2 (Fin.ofNat 100000 (side m d (ix2 (y 0) (y 1))).toNat) (y 2))
/-- That, turned back. -/
def res (d : Dev nD) : S4096x50x128.Idx → Elt F .f32 := transpose S4096x50x128 [1, 0, 2] (raw m d) transposes_S50x4096x128_S4096x50x128_1_0_2

/-- Every token names a row of the table. -/
def InVocab : Prop := ∀ (d : Dev nD) (i : S4096x50.Idx), (m (tokLoc d) i).toNat < 100000

omit [FloatOps F] in
theorem side_lt (h : InVocab m) (d : Dev nD) (i : S50x4096.Idx) : (side m d i).toNat < 100000 := h d _

omit [FloatOps F] in
theorem side_apply (d : Dev nD) (i : S50x4096.Idx) : side m d i = m (tokLoc d) (ix2 (i 1) (i 0)) :=
  transpose_apply _ _ _ _ _ fun b => match b with | ⟨0, _⟩ => rfl | ⟨1, _⟩ => rfl

omit [FloatOps F] in
/-- The result, element by element: at `(i, j, k)`, column `k` of the row of the table that token `(i, j)` names. -/
theorem res_apply (d : Dev nD) (z : S4096x50x128.Idx) :
    res m d z = m (tabLoc d) (ix2 (Fin.ofNat 100000 (m (tokLoc d) (ix2 (z 0) (z 1))).toNat) (z 2)) := by
  refine (transpose_apply _ _ _ z (ix3 (z 1) (z 0) (z 2)) fun b => match b with | ⟨0, _⟩ => rfl | ⟨1, _⟩ => rfl | ⟨2, _⟩ => rfl).trans ?_
  unfold raw
  rw [side_apply]

/-! ## One subcore's part -/

/-- The share of the turned tokens and of the table that falls to the subcore at `L`. -/
abbrev share (L : grid0.Coords) : PosShare TreeShare :=
  pieceOf (pieceOf fullShare 2 (by decide) (L 0)) 16 (by decide) (L 1)

omit [FloatOps F] in
theorem col_lt (L : grid0.Coords) (x : Fin 128) : col L + x.val < 4096 := by
  have h0 : (L 0).val < 2 := (L 0).isLt
  have h1 : (L 1).val < 16 := (L 1).isLt
  unfold col
  omega

/-- What the subcore at `L` works with. -/
abbrev dat (d : Dev nD) (L : grid0.Coords) : Data F where
  q := share L
  tab := m (tabLoc d)
  lst := fun i => side m d (ix2 (i 0) ⟨col L + (i 1).val, col_lt L (i 1)⟩)
  old := m (rawLoc d)
  new := raw m d

omit [FloatOps F] in
theorem dat_good (h : InVocab m) (d : Dev nD) (L : grid0.Coords) : (dat m d L).Good (col L) where
  inb i := side_lt m h d _
  val i x y h0 h1 hx hk := by
    have e : (ix2 (i 0) ⟨col L + (i 1).val, col_lt L (i 1)⟩ : S50x4096.Idx) = ix2 (y 0) (y 1) := by
      funext a
      match a with
      | 0 => exact Fin.ext h0.symm
      | 1 => exact Fin.ext h1.symm
    have hlt := side_lt m h d (ix2 (y 0) (y 1))
    dsimp only [dat] at hx ⊢
    rw [e] at hx
    unfold raw
    refine congrArg (m (tabLoc d)) (funext fun a => Fin.ext ?_)
    match a with
    | 0 => exact hx.trans (Nat.mod_eq_of_lt hlt).symm
    | 1 => exact hk

/-- The part of the call's operands handed to the subcore at `L`, its columns of the result at contents `g`. -/
abbrev part (d : Dev nD) (L : grid0.Coords) (g : S50x4096x128.Idx → Elt F .f32) : sProp 𝕄 :=
  iprop((sideLoc d ↦{share L} side m d) ∗ (tabLoc d ↦{share L} m (tabLoc d)) ∗ rawLoc d ↦[colSet (col L)]{fullShare} g)

section Own
variable (d : Dev nD) (L : grid0.Coords)

omit [FloatOps F] in
/-- The cells that a ring's seven semaphores name, taken out of a set that has them all. -/
theorem take_seven (f : Fin 7 → GSem nD τ sig) (hf : Function.Injective f) {s : Finset (GSem nD τ sig)} (hs : ∀ b, f b ∈ s) (Φ : GSem nD τ sig → sProp 𝕄) :
    bigSep s Φ = iprop((bigSep Finset.univ fun b : Fin 7 => Φ (f b)) ∗ bigSep (s \ Finset.univ.image f) Φ) := by
  rw [← bigSep_image_of_injOn hf.injOn]
  refine bigSep_sdiff_split fun g hg => ?_
  obtain ⟨b, -, rfl⟩ := Finset.mem_image.mp hg
  exact hs b

/-- The subcore's own semaphores: the ring's fourteen, the fetch's one, and others. -/
def otherCells : Finset (GSem nD τ sig) :=
  (((ownCells (thr d L)) \ Finset.univ.image fun b : Fin 7 => (thr d L, SemLoc.dma (gs b))) \ Finset.univ.image fun b : Fin 7 => (thr d L, SemLoc.dma (ws b))).erase
    (thr d L, SemLoc.dma cc0_scoped0.sem)

omit [FloatOps F] in
theorem own_sems : (ownSems0 (thr d L) : sProp 𝕄)
    = iprop((bigSep Finset.univ fun b : Fin 7 => cell (F := F) d L (gs b)) ∗ (bigSep Finset.univ fun b : Fin 7 => cell (F := F) d L (ws b))
      ∗ cell (F := F) d L cc0_scoped0.sem ∗ bigSep (otherCells d L) fun g => semVal g 0) := by
  let at' : DmaSem sig → GSem nD τ sig := fun s => (thr d L, SemLoc.dma s)
  have inj : ∀ {a b : DmaSem sig}, at' a = at' b → a = b := by
    intro a b e; have e2 := congrArg Prod.snd e; simpa [at'] using e2
  have own : ∀ {s : DmaSem sig}, (SemLoc.dma s : SemLoc sig).isScoped .scVector = true → at' s ∈ ownCells (thr d L) := fun h => mem_ownCells.mpr ⟨rfl, h⟩
  have notG : ∀ {s : DmaSem sig}, (∀ b, gs b ≠ s) → at' s ∉ Finset.univ.image fun b : Fin 7 => at' (gs b) := fun h e => by
    obtain ⟨a, -, e⟩ := Finset.mem_image.mp e
    exact h a (inj e)
  have notW : ∀ {s : DmaSem sig}, (∀ b, ws b ≠ s) → at' s ∉ Finset.univ.image fun b : Fin 7 => at' (ws b) := fun h e => by
    obtain ⟨a, -, e⟩ := Finset.mem_image.mp e
    exact h a (inj e)
  have hg : ∀ b, (SemLoc.dma (gs b) : SemLoc sig).isScoped .scVector = true := by decide
  have hw : ∀ b, (SemLoc.dma (ws b) : SemLoc sig).isScoped .scVector = true := by decide
  have hc : (SemLoc.dma cc0_scoped0.sem : SemLoc sig).isScoped .scVector = true := by decide
  have gi : ∀ a b, gs a = gs b → a = b := by decide
  have wi : ∀ a b, ws a = ws b → a = b := by decide
  have gw : ∀ b a, gs a ≠ ws b := by decide
  have gc : ∀ a, gs a ≠ cc0_scoped0.sem := by decide
  have wc : ∀ a, ws a ≠ cc0_scoped0.sem := by decide
  refine (take_seven (fun b => at' (gs b)) (fun a b e => gi a b (inj e)) (fun b => own (hg b)) _).trans ?_
  refine congrArg (BIBase.sep _) ?_
  refine (take_seven (fun b => at' (ws b)) (fun a b e => wi a b (inj e)) (fun b => Finset.mem_sdiff.mpr ⟨own (hw b), notG (gw b)⟩) _).trans ?_
  refine congrArg (BIBase.sep _) ?_
  exact SparseCore.bigSep_erase' (Finset.mem_sdiff.mpr ⟨Finset.mem_sdiff.mpr ⟨own hc, notG gc⟩, notW wc⟩)

/-- The subcore's own buffers beside its list and its ring. -/
def otherBufs : Finset (DevRef τ sig) :=
  ((ownRefs (τ := τ) (.scVector (cV L) (jV L))).erase ((Proc.scVector (cV L) (jV L)).devRef cc0_scratch0)).erase ((Proc.scVector (cV L) (jV L)).devRef cc0_scratch1)

omit [FloatOps F] in
theorem own_bufs : (ownBufs (thr d L) : sProp 𝕄)
    = iprop((∃ f, lLoc d L ↦{fullShare} f) ∗ (∃ f, rLoc d L ↦{fullShare} f) ∗ bigSep (otherBufs L) fun b => iprop(∃ f, ((d, b) : Loc nD τ sig) ↦{fullShare} f)) := by
  unfold SparseCore.Cfg.ownBufs otherBufs
  refine (SparseCore.bigSep_erase' (mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    mem_ownRefs_of_owner (p := Proc.scVector (cV L) (jV L)) (b := (Proc.scVector (cV L) (jV L)).devRef cc0_scratch1) rfl⟩)]

end Own

set_option maxRecDepth 8192 in
/-- The task of the subcore at `L`, as the launch theorem asks it: from its part of the operands to its part with its
    columns of the result written. -/
theorem tile_body (hF : (K (F := F)).Facts) (h : InVocab m) (d : Dev nD) (L : grid0.Coords) (O : CellTallies nD τ sig (HIx 1)) (W : Waits sig (HIx 1))
    (hO : ∀ g, O g none = 0) :
    iprop(levAts (K (F := F)).L (K (F := F)).lev ∗ emp ∗ part m d L (m (rawLoc d))
        ∗ scopedBufs (thr d L) ∗ scopedSems0 (thr d L) ∗ owes (thr d L) O W)
      ⊢ wp frame (wpE (defs₀ (F := F)) 𝒱₀ (thr d L) none) Set.univ
          (cc0__gather_body (F := F) L (Memref.whole main_v0_scv) (Memref.isWhole_whole _) (Memref.whole main_arg1_scv) (Memref.isWhole_whole _)
          (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0)
          fun _ => iprop(part m d L (raw m d) ∗ scopedBufs (thr d L) ∗ scopedSems0 (thr d L)
            ∗ ∃ W', ⌜∀ p ∈ W', p ∈ W ∨ p.2 = none ∨ p.2 = some (0 : Fin 1)⌝ ∗ owes (thr d L) O W') := by
  have key := wp_task (d := d) (dat_good m h d L) (O := O) (W := W) (q := share L) (tok := side m d) fun i y h0 h1 => congrArg (side m d) (by
    funext a
    match a with
    | 0 => exact Fin.ext h0
    | 1 => exact Fin.ext h1)
  rw [(K (F := F)).scopedBufs_V hF d (cV L) (jV L), SparseCore.Cfg.scopedSems0_V (Val := Elt F) d (cV L) (jV L), own_sems, own_bufs]
  iintro ⟨#Hlv, -, ⟨Hs, Ht, Hu⟩, ⟨Hl, Hr, Hbufs⟩, ⟨Hg, Hw, Hc, Hsems⟩, HO⟩
  ihave Hmw := (show levAts (K (F := F)).L (K (F := F)).lev ⊢ Transfers.MayWaits (thr d L) (default : HIx 1) O from
    (K (F := F)).mayWaits_none (thr := thr d L) hO) $$ Hlv
  ihave H := key $$ [Hmw HO Hs Ht Hu Hl Hr Hg Hw Hc]
  · isplitl [Hmw]; · iexact Hmw
    isplitl [HO]
    · unfold OW
      iexists W
      isplitr
      · ipureintro; exact fun p hp => .inl hp
      · iexact HO
    unfold Hold
    isplitl [Hs]; · iexact Hs
    isplitl [Ht]; · iexact Ht
    isplitl [Hu]; · iexact Hu
    isplitl [Hl]; · iexact Hl
    isplitl [Hr]; · iexact Hr
    isplitl [Hg]; · iexact Hg
    isplitl [Hw]; · iexact Hw
    iexact Hc
  iapply (wp_wand _ _ _) $$ H
  iintro %_ ⟨HO, H⟩
  unfold Hold OW
  icases H with ⟨Hs, Ht, Hu, Hl, Hr, Hg, Hw, Hc⟩
  icases HO with ⟨%W', %hW', HO⟩
  isplitl [Hs Ht Hu]
  · isplitl [Hs]; · iexact Hs
    isplitl [Ht]; · iexact Ht
    iexact Hu
  isplitl [Hl Hr Hbufs]
  · isplitl [Hl]; · iexact Hl
    isplitl [Hr]; · iexact Hr
    iexact Hbufs
  isplitl [Hg Hw Hc Hsems]
  · isplitl [Hg]; · iexact Hg
    isplitl [Hw]; · iexact Hw
    isplitl [Hc]; · iexact Hc
    iexact Hsems
  iexists W'
  isplitr
  · ipureintro; exact fun p hp => (hW' p hp).imp_right Or.inl
  · iexact HO

/-! ## The operands cut for the subcores -/

/-- Grid point `(c, i)`. -/
abbrev at₂ (c : Fin 2) (i : Fin 16) : grid0.Coords :=
  fun | 0 => c | 1 => i | ⟨_ + 2, h⟩ => absurd h (Nat.not_lt.2 (Nat.le_add_left _ _))

/-- The columns of the result that SparseCore `c`'s subcores look up. -/
def coreSet (c : Fin 2) : Finset S50x4096x128.Idx := Finset.univ.biUnion fun i : Fin 16 => colSet (col (at₂ c i))

omit [FloatOps F] in
theorem cols_disjoint {c c' : Fin 2} {i i' : Fin 16} (h : c ≠ c' ∨ i ≠ i') : Disjoint (colSet (col (at₂ c i))) (colSet (col (at₂ c' i'))) := by
  refine Finset.disjoint_left.mpr fun y hy hy' => ?_
  rw [mem_colSet] at hy hy'
  have e : (at₂ c i 0).val = c.val ∧ (at₂ c i 1).val = i.val ∧ (at₂ c' i' 0).val = c'.val ∧ (at₂ c' i' 1).val = i'.val := ⟨rfl, rfl, rfl, rfl⟩
  unfold col at hy hy'
  rw [e.1, e.2.1] at hy
  rw [e.2.2.1, e.2.2.2] at hy'
  have := c.isLt
  have := c'.isLt
  rcases h with h | h
  · exact h (Fin.ext (by omega))
  · exact h (Fin.ext (by omega))

omit [FloatOps F] in
theorem cores_cover : (Finset.univ : Finset (Fin 2)).biUnion coreSet = Finset.univ := by
  ext y
  have hy : (y 1).val < 4096 := (y 1).isLt
  simp only [Finset.mem_biUnion, Finset.mem_univ, true_and, iff_true, coreSet, mem_colSet]
  refine ⟨⟨(y 1).val / 128 % 2, by omega⟩, ⟨(y 1).val / 256, by omega⟩, ?_⟩
  show 256 * ((y 1).val / 256) + 128 * ((y 1).val / 128 % 2) ≤ (y 1).val ∧ (y 1).val < 256 * ((y 1).val / 256) + 128 * ((y 1).val / 128 % 2) + 128
  omega

omit [FloatOps F] in
/-- The result whole is each core's columns; each core's are its subcores'. -/
theorem raw_cores (d : Dev nD) (f : Buf (Elt F) (rawLoc d)) :
    (rawLoc d ↦{fullShare} f : sProp 𝕄) = bigSep Finset.univ fun c : Fin 2 => rawLoc d ↦[coreSet c]{fullShare} f := by
  rw [← pointsTo_biUnion Finset.univ (ℓ := rawLoc d) coreSet, cores_cover]
  · intro c _ c' _ h
    unfold coreSet
    refine (Finset.disjoint_biUnion_left _ _ _).mpr fun i _ => (Finset.disjoint_biUnion_right _ _ _).mpr fun i' _ => cols_disjoint (.inl h)
omit [FloatOps F] in
theorem core_cols (d : Dev nD) (c : Fin 2) (f : Buf (Elt F) (rawLoc d)) :
    (rawLoc d ↦[coreSet c]{fullShare} f : sProp 𝕄) = bigSep Finset.univ fun i : Fin 16 => rawLoc d ↦[colSet (col (at₂ c i))]{fullShare} f :=
  pointsTo_biUnion Finset.univ (ℓ := rawLoc d) (fun i => colSet (col (at₂ c i))) fun _ _ _ _ h => cols_disjoint (.inr h)

/-- The part of the call's operands handed to SparseCore `c`, its columns of the result at contents `g`. -/
abbrev corePart (d : Dev nD) (c : Fin 2) (g : S50x4096x128.Idx → Elt F .f32) : sProp 𝕄 :=
  iprop((sideLoc d ↦{pieceOf fullShare 2 (by decide) c} side m d) ∗ (tabLoc d ↦{pieceOf fullShare 2 (by decide) c} m (tabLoc d)) ∗ rawLoc d ↦[coreSet c]{fullShare} g)

omit [FloatOps F] in
/-- A core's part is its subcores' parts. -/
theorem corePart_eq (d : Dev nD) (c : Fin 2) (g : S50x4096x128.Idx → Elt F .f32) :
    corePart m d c g = bigSep Finset.univ fun i : Fin 16 => part m d (at₂ c i) g := by
  unfold corePart part
  rw [bigSep_sep', bigSep_sep', ← core_cols]
  have cut : ∀ (ℓ : Loc nD τ sig) (f : Buf (Elt F) ℓ), (ℓ ↦{pieceOf fullShare 2 (by decide) c} f : sProp 𝕄)
      = bigSep Finset.univ fun i : Fin 16 => ℓ ↦{pieceOf (pieceOf fullShare 2 (by decide) c) 16 (by decide) i} f := fun ℓ f =>
    pointsTo_piecesOf Finset.univ f (by decide) _
  rw [cut, cut]

omit [FloatOps F] in
/-- The operands whole are the two cores' parts. -/
theorem whole_eq (d : Dev nD) (g : S50x4096x128.Idx → Elt F .f32) :
    (iprop((sideLoc d ↦{fullShare} side m d) ∗ (tabLoc d ↦{fullShare} m (tabLoc d)) ∗ rawLoc d ↦{fullShare} g) : sProp 𝕄)
      = bigSep Finset.univ fun c : Fin 2 => corePart m d c g := by
  unfold corePart
  rw [bigSep_sep', bigSep_sep', ← raw_cores, ← pointsTo_piecesOf, ← pointsTo_piecesOf]

/-! ## The launch -/

/-- What the launch hands each core and each subcore, and gets back: their parts of the operands, the result's columns
    first as they were, then written. -/
def P : (K (F := F)).Pay (nD := nD) (Val := Elt F) (Name := ℕ) (U := UU) where
  st := fun q d c => match q with | 0 => corePart m d (Fin.cast nCore_zero c) (m (rawLoc d))
  dn := fun q d c => match q with | 0 => corePart m d (Fin.cast nCore_zero c) (raw m d)
  go := fun q d c i => match q with | 0 => part m d (at₂ (Fin.cast nCore_zero c) (Fin.cast nSub_zero i)) (m (rawLoc d))
  td := fun q d c i => match q with | 0 => part m d (at₂ (Fin.cast nCore_zero c) (Fin.cast nSub_zero i)) (raw m d)
  x := fun _ _ => iprop(emp)

instance P_storable : (P (F := F) m).IsStorable where
  st q d c := match q with
    | 0 => (inferInstance : BI.Storable (upEmb : UEmb _ 𝕄) (corePart m d (Fin.cast nCore_zero c) (m (rawLoc d))))
  dn q d c := match q with
    | 0 => (inferInstance : BI.Storable (upEmb : UEmb _ 𝕄) (corePart m d (Fin.cast nCore_zero c) (raw m d)))
  go q d c i := match q with
    | 0 => (inferInstance : BI.Storable (upEmb : UEmb _ 𝕄) (part m d (at₂ (Fin.cast nCore_zero c) (Fin.cast nSub_zero i)) (m (rawLoc d))))
  td q d c i := match q with
    | 0 => (inferInstance : BI.Storable (upEmb : UEmb _ 𝕄) (part m d (at₂ (Fin.cast nCore_zero c) (Fin.cast nSub_zero i)) (raw m d)))

theorem defs₀_vector (c : Fin τ.nSC) (s : Fin τ.nSub) :
    defs₀ (F := F) (.scVector c s) 0 ()
      = SparseCore.onTile hcore0 hsub0 (fun c s => cc0__gather_body (F := F) (at₂ c s) (Memref.whole main_v0_scv) (Memref.isWhole_whole _) (Memref.whole main_arg1_scv) (Memref.isWhole_whole _)
          (Memref.whole main_v1_scv) (Memref.isWhole_whole _)
          (Memref.whole cc0_scratch0) (Memref.isWhole_whole _) (Memref.whole cc0_scratch1) (Memref.isWhole_whole _) cc0_scratch2 cc0_scratch3 cc0_scratch4 cc0_scratch5 cc0_scratch6
          cc0_scratch7 cc0_scratch8 cc0_scratch9 cc0_scratch10 cc0_scratch11 cc0_scratch12 cc0_scratch13 cc0_scratch14 cc0_scratch15 cc0_scoped0) ⟨⟩ c s := rfl

set_option maxRecDepth 16384 in
/-- Every subcore's task meets what the launch asks of it. -/
theorem tileObl (h : InVocab m) : (K (F := F)).TileObl (bodies (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (bodies (F := F)) (Pipeline.defs_kernel pcfgs defs₀) 𝒱₀ _ Set.univ none _ _)
  rw [defs₀_vector]; simp only [SparseCore.onTile, hci, and_self, ↓reduceDIte]
  exact tile_body m facts h d (at₂ ⟨_, hci.1⟩ ⟨_, hci.2⟩) O W hO

/-- A core's part is handed to its subcores and comes back from them. -/
theorem vecSplit : (K (F := F)).VecSplit' (P m) 0 := by
  intro d c
  have e : ∀ g, (bigSep Finset.univ fun i : Fin ((K (F := F)).nSub 0) => part m d (at₂ (Fin.cast nCore_zero c) (Fin.cast nSub_zero i)) g)
      = corePart m d (Fin.cast nCore_zero c) g := fun g => (corePart_eq m d _ g).symm
  show corePart m d (Fin.cast nCore_zero c) (m (rawLoc d)) ⊢ |={Set.univ}=> iprop(
      (bigSep Finset.univ fun i : Fin ((K (F := F)).nSub 0) => part m d (at₂ (Fin.cast nCore_zero c) (Fin.cast nSub_zero i)) (m (rawLoc d)))
      ∗ ((bigSep Finset.univ fun i : Fin ((K (F := F)).nSub 0) => part m d (at₂ (Fin.cast nCore_zero c) (Fin.cast nSub_zero i)) (raw m d))
          -∗ corePart m d (Fin.cast nCore_zero c) (raw m d)))
  rw [e, e]
  iintro H; imodintro
  isplitl [H]; · iexact H
  iintro H; iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none : ∀ {I : Type} (s : Finset I), (bigSep s fun _ => iprop(emp)) = (iprop(emp) : sProp 𝕄) := fun s => bigSep_emp_const s
  have e : (bigSep Finset.univ fun thr : Thread nD τ => bigSep Finset.univ fun q : Fin 1 => (P (F := F) m).x q thr) = iprop(emp) :=
    (bigSep_congr fun _ _ => none _).trans (none _)
  rw [e, none]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The host's program -/

abbrev tok' : DevRef τ sig := Proc.devRef .tc (main_arg0 : Ref sig .tc)
abbrev tab' : DevRef τ sig := Proc.devRef .tc (main_arg1 : Ref sig .tc)
abbrev side' : DevRef τ sig := Proc.devRef .tc (main_v0 : Ref sig .tc)
abbrev raw' : DevRef τ sig := Proc.devRef .tc (main_v1 : Ref sig .tc)
abbrev res' : DevRef τ sig := Proc.devRef .tc (main_v2 : Ref sig .tc)
/-- The two turnings. -/
abbrev opSide : HloOp τ sig (Elt F) := StableHlo.unary main_arg0 main_v0
  ((transpose S50x4096 [1, 0] · transposes_S4096x50_S50x4096_1_0) : (⟨S4096x50, .i32⟩ : BufTy).Contents (Elt F) → (⟨S50x4096, .i32⟩ : BufTy).Contents (Elt F))
abbrev opBack : HloOp τ sig (Elt F) := StableHlo.unary main_v1 main_v2
  ((transpose S4096x50x128 [1, 0, 2] · transposes_S50x4096x128_S4096x50x128_1_0_2) : (⟨S50x4096x128, .f32⟩ : BufTy).Contents (Elt F) → (⟨S4096x50x128, .f32⟩ : BufTy).Contents (Elt F))

/-- The host's five arrays, each at its contents in `W`. -/
abbrev five (d : Dev nD) (W : Valuation τ sig (Elt F)) : sProp 𝕄 :=
  iprop((tokLoc d ↦{fullShare} W tok') ∗ (tabLoc d ↦{fullShare} W tab') ∗ (sideLoc d ↦{fullShare} W side') ∗ (rawLoc d ↦{fullShare} W raw') ∗ resLoc d ↦{fullShare} W res')
abbrev fiveSet : Finset (DevRef τ sig) := {tok', tab', side', raw', res'}

omit [FloatOps F] in
theorem held_five (d : Dev nD) (W : Valuation τ sig (Elt F)) : (held (T d) fiveSet W : sProp 𝕄) = five d W := by
  unfold held fiveSet
  rw [SparseCore.bigSep_insert' (by decide), SparseCore.bigSep_insert' (by decide), SparseCore.bigSep_insert' (by decide),
    SparseCore.bigSep_insert' (by decide), bigSep_singleton]

/-- The arrays' contents at the launch, before the call and after it. -/
def V0 (d : Dev nD) : Valuation τ sig (Elt F) := fun b => m (d, b)
def V1 (d : Dev nD) : Valuation τ sig (Elt F) := (opSide (F := F)).result (V0 m d)
def V2 (d : Dev nD) : Valuation τ sig (Elt F) := Function.update (V1 m d) raw' (raw m d)

omit [FloatOps F] in
theorem unscoped_five (d : Dev nD) : (unscopedBufs d (fun b => m ((SparseCore.T d).loc b)) : sProp 𝕄) = held (T d) fiveSet (V0 m d) := by
  rw [held_five]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

omit [FloatOps F] in
theorem V1_of_ne (d : Dev nD) {b : DevRef τ sig} (h : b ∉ ({side'} : Finset (DevRef τ sig))) : V1 m d b = m (d, b) :=
  (opSide (F := F)).result_of_not_mem (V0 m d) h
omit [FloatOps F] in
theorem V1_side (d : Dev nD) : V1 m d side' = side m d := StableHlo.unary_result _ _ _ _ _ _
omit [FloatOps F] in
theorem five_V1 (d : Dev nD) : (five d (V1 m d) : sProp 𝕄)
    = iprop((tokLoc d ↦{fullShare} m (tokLoc d)) ∗ (tabLoc d ↦{fullShare} m (tabLoc d)) ∗ (sideLoc d ↦{fullShare} side m d)
      ∗ (rawLoc d ↦{fullShare} m (rawLoc d)) ∗ resLoc d ↦{fullShare} m (resLoc d)) := by
  unfold five
  rw [V1_side, V1_of_ne m d (b := tok') (by decide), V1_of_ne m d (b := tab') (by decide), V1_of_ne m d (b := raw') (by decide), V1_of_ne m d (b := res') (by decide)]
omit [FloatOps F] in
theorem five_V2 (d : Dev nD) : (five d (V2 m d) : sProp 𝕄)
    = iprop((tokLoc d ↦{fullShare} m (tokLoc d)) ∗ (tabLoc d ↦{fullShare} m (tabLoc d)) ∗ (sideLoc d ↦{fullShare} side m d)
      ∗ (rawLoc d ↦{fullShare} raw m d) ∗ resLoc d ↦{fullShare} m (resLoc d)) := by
  have ne : ∀ {b : DevRef τ sig}, b ≠ raw' → V2 m d b = V1 m d b := fun h => Function.update_of_ne h _ _
  unfold five
  rw [ne (b := side') (by decide), ne (b := tok') (by decide), ne (b := tab') (by decide), ne (b := res') (by decide), V1_side,
    V1_of_ne m d (b := tok') (by decide), V1_of_ne m d (b := tab') (by decide), V1_of_ne m d (b := res') (by decide),
    show V2 m d raw' = raw m d from Function.update_self _ _ _]
omit [FloatOps F] in
theorem five_end (d : Dev nD) : (five d ((opBack (F := F)).result (V2 m d)) : sProp 𝕄)
    ⊢ iprop((tokLoc d ↦{fullShare} m (tokLoc d)) ∗ (tabLoc d ↦{fullShare} m (tabLoc d)) ∗ resLoc d ↦{fullShare} res m d) := by
  have ne : ∀ {b : DevRef τ sig}, b ≠ raw' → V2 m d b = V1 m d b := fun h => Function.update_of_ne h _ _
  unfold five
  rw [(opBack (F := F)).result_of_not_mem (V2 m d) (b := tok') (show tok' ∉ ({res'} : Finset (DevRef τ sig)) by decide),
    (opBack (F := F)).result_of_not_mem (V2 m d) (b := tab') (show tab' ∉ ({res'} : Finset (DevRef τ sig)) by decide),
    show (opBack (F := F)).result (V2 m d) res' = res m d from (StableHlo.unary_result _ _ _ _ _ _).trans
      (congrArg (transpose S4096x50x128 [1, 0, 2] · transposes_S50x4096x128_S4096x50x128_1_0_2) (show V2 m d raw' = raw m d from Function.update_self _ _ _)),
    ne (b := tok') (by decide), ne (b := tab') (by decide), V1_of_ne m d (b := tok') (by decide), V1_of_ne m d (b := tab') (by decide)]
  iintro ⟨H1, H2, -, -, H3⟩
  isplitl [H1]; · iexact H1
  isplitl [H2]; · iexact H2
  iexact H3

theorem st_eq (d : Dev nD) : (bigSep Finset.univ fun c : Fin ((K (F := F)).nCore 0) => (P m).st 0 d c)
    = iprop((sideLoc d ↦{fullShare} side m d) ∗ (tabLoc d ↦{fullShare} m (tabLoc d)) ∗ rawLoc d ↦{fullShare} m (rawLoc d)) := (whole_eq m d _).symm
theorem dn_eq (d : Dev nD) : (bigSep Finset.univ fun c : Fin ((K (F := F)).nCore 0) => (P m).dn 0 d c)
    = iprop((sideLoc d ↦{fullShare} side m d) ∗ (tabLoc d ↦{fullShare} m (tabLoc d)) ∗ rawLoc d ↦{fullShare} raw m d) := (whole_eq m d _).symm

/-- What the host's program ends with. -/
abbrev FIN (d : Dev nD) : sProp 𝕄 :=
  iprop((tokLoc d ↦{fullShare} m (tokLoc d)) ∗ (tabLoc d ↦{fullShare} m (tabLoc d)) ∗ resLoc d ↦{fullShare} res m d)

theorem hSide : (opSide (F := F)).bufs ⊆ fiveSet := show ({tok', side'} : Finset (DevRef τ sig)) ⊆ fiveSet by decide
theorem hBack : (opBack (F := F)).bufs ⊆ fiveSet := show ({raw', res'} : Finset (DevRef τ sig)) ⊆ fiveSet by decide

/-- The host's program: the tokens turned, the call, the result turned back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (bodies (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_five]
  simp only [main, wp_bind, wp_pure]
  iintro ⟨#Hctx, Hst, ⟨Hb, Hheld, Hts, -⟩, -⟩
  iapply (wp_hlo_within 𝒱 (SparseCore.T d) none Set.univ (op := opSide) (S := fiveSet) hSide (V := V0 m d)) $$ [Hb Hheld]
  · isplitl [Hb] <;> iassumption
  iintro ⟨Hb, Hheld⟩
  rw [wp_ret]; imodintro
  ihave Hh := (Entails.of_eq ((show held (T d) fiveSet ((opSide (F := F)).result (V0 m d)) = five d (V1 m d) from held_five d _).trans (five_V1 m d))) $$ Hheld
  icases Hh with ⟨Htok, Htab, Hside, Hraw, Hres⟩
  iapply ((K (F := F)).wp_run (bodies (F := F)) 𝒱 (EH := EH) (P := P m) κ d 0) $$ [Hst Htok Htab Hside Hraw Hres Hb Hts]
  isplitr; · iexact Hctx
  isplitl [Hst]; · iexact Hst
  isplitl [Hside Htab Hraw]
  · rw [st_eq]
    isplitl [Hside]; · iexact Hside
    isplitl [Htab]; · iexact Htab
    iexact Hraw
  iintro ⟨Hst, Hdn⟩
  ihave Hdn' := (Entails.of_eq (dn_eq m d)) $$ Hdn
  icases Hdn' with ⟨Hside, Htab, Hraw⟩
  iapply (wp_hlo_within 𝒱 (SparseCore.T d) none Set.univ (op := opBack) (S := fiveSet) hBack (V := V2 m d)) $$ [Hb Htok Htab Hside Hraw Hres]
  · isplitl [Hb]; · iexact Hb
    rw [held_five, five_V2]
    isplitl [Htok]; · iexact Htok
    isplitl [Htab]; · iexact Htab
    isplitl [Hside]; · iexact Hside
    isplitl [Hraw]; · iexact Hraw
    iexact Hres
  iintro ⟨Hb, Hheld⟩
  ihave Hh := ((Entails.of_eq (held_five d ((opBack (F := F)).result (V2 m d)))).trans (five_end m d)) $$ Hheld
  rw [wp_ret]; imodintro; imodintro
  isplitl [Hst]; · iexact Hst
  isplitl [Hh]; · iexact Hh
  isplitl [Hb] <;> iassumption

/-! ## Every final state -/

/-- What is read of a final state on device `d`. -/
def fq (d : Dev nD) (s' : Phys nD τ sig (Elt F)) : Prop :=
  s'.mem.mem (resLoc d) = res m d ∧ s'.mem.mem (tokLoc d) = m (tokLoc d) ∧ s'.mem.mem (tabLoc d) = m (tabLoc d)

set_option maxRecDepth 16384 in
theorem hfin (d : Dev nD) (s' : Phys nD τ sig (Elt F)) : iprop(FIN m d ∗ SI s') ⊢ (⌜fq m d s'⌝ : sProp 𝕄) := by
  iintro ⟨⟨Htok, Htab, Hres⟩, HSI⟩
  ihave H := (persistent_entails_right (SI_pointsTo_agree (st := s') (ℓ := tokLoc d) (I := Finset.univ) (q := fullShare) (f := m (tokLoc d)))) $$ [HSI Htok]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := resLoc d) (I := Finset.univ) (q := fullShare) (f := res m d)) $$ [HSI Hres]
  · isplitl [HSI] <;> iassumption
  icases H with %h3
  ipureintro
  exact ⟨funext fun i => h3 i (Finset.mem_univ i), funext fun i => h1 i (Finset.mem_univ i), funext fun i => h2 i (Finset.mem_univ i)⟩

/-- Every final state holds the looked-up rows, the tokens and the table as they were, and no semaphore raised. -/
def QC : PUnit × MemSt nD τ sig (Elt F) → Prop := fun r =>
  (∀ c : Dev nD, r.2.mem (resLoc c) = res m c ∧ r.2.mem (tokLoc c) = m (tokLoc c) ∧ r.2.mem (tabLoc c) = m (tabLoc c)) ∧ r.2.sem = fun _ => 0

/-- The program runs, without a fault, to such a state, when every token names a row of the table. -/
theorem run_main [∀ e, Nonempty (Elt F e)] (h : InVocab m) :
    θ_run (Cert.KernelIdeal.defs (F := F)) (Cert.KernelIdeal.threads (F := F)) ⟨m, fun _ => 0, ρ⟩ (QC m) :=
  SparseCore.Cfg.θ_run_sc_quiescent (K := K (F := F)) (D := bodies (F := F)) (𝒱 := 𝒱) (EH := EH) (P := P m) (A := ∅) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Lookup

end
-- ==== Proof.Reference.lean ====
/-
  The reference, read element by element: where every token names a row of the table, no token is wrapped, no row is
  filled in, and the result at `(i, j, k)` is column `k` of the row that token `(i, j)` names.
-/
module

public import proofs.«01_k».proof.ReferenceIdeal
public import proofs.«01_k».proof.Proof.Gen.ReferenceIdeal
public import proofs.«01_k».proof.Proof.Gen.ReferenceIdeal.Run
public import Idealize.ShloMosaic.Lib.Quiescent
public import Idealize.ShloMosaic.Lib.ReduceAll
public import Idealize.ShloMosaic.Lib.ValueIdxCore
public import Idealize.ShloMosaic.Lib.Pipeline.Value

@[expose] public section

noncomputable section

namespace Cert.ReferenceIdeal.Lookup

open Cert.ReferenceIdeal Cert.ReferenceIdeal.Gen Idealize.ShloMosaic
open Idealize.ShloMosaic.ValueIdx (ix2 ix3)

/-! ## Words -/

/-- A word below 100000 is not negative, read signed, and not above 99999. -/
theorem word_facts {v : BitVec 32} (h : v.toNat < 100000) :
    IntOp.cmpi .slt v 0#32 = 0#1 ∧ IntOp.cmpi .sge v 0#32 = 1#1 ∧ IntOp.cmpi .sle v 99999#32 = 1#1 ∧ v.toInt.toNat = v.toNat := by
  have e : v.toInt = v.toNat := by rw [BitVec.toInt_eq_toNat_cond]; omega
  refine ⟨?_, ?_, ?_, by rw [e]; rfl⟩
  · show BitVec.ofBool (v.slt 0#32) = 0#1
    rw [BitVec.slt_eq_decide, e, decide_eq_false (by simp)]; rfl
  · show BitVec.ofBool ((0#32).sle v) = 1#1
    rw [BitVec.sle_eq_decide, e, decide_eq_true (by simp)]; rfl
  · show BitVec.ofBool (v.sle 99999#32) = 1#1
    rw [BitVec.sle_eq_decide, e, decide_eq_true (by show (v.toNat : ℤ) ≤ 99999; omega)]; rfl

/-! ## The gather -/

/-- Result `(i, j, k)` of the gather: column `k` of the row that word `(i, j, 0)` of the indices names, where it names one. -/
theorem gather_apply {α : Type} (tab : S100000x128.Idx → α) (idx : IVec S4096x50x1 32) (z : S4096x50x128.Idx)
    (h : (idx (ix3 (z 0) (z 1) 0)).toNat < 100000) :
    Host.gather gather_S100000x128_S4096x50x1_S4096x50x128_2_0_n_n_0_2_1128 tab idx z
      = tab (ix2 (Fin.ofNat 100000 (idx (ix3 (z 0) (z 1) 0)).toNat) (z 2)) := by
  let dn := gather_S100000x128_S4096x50x1_S4096x50x128_2_0_n_n_0_2_1128
  have hb : ∀ a, dn.batchCoord z a = 0 := fun a => GatherDims.batchCoord_eq_zero _ _ _ List.not_mem_nil
  have row : dn.start z idx 0 = (idx (ix3 (z 0) (z 1) 0)).toNat := by
    have m0 : (0 : Fin 2) ∈ dn.startIndexMap := List.mem_singleton.mpr rfl
    have e : dn.siIdx z ⟨List.idxOf (0 : Fin 2) dn.startIndexMap, List.idxOf_lt_length_iff.2 m0⟩ = ix3 (z 0) (z 1) 0 := by
      funext b
      match b with
      | ⟨0, _⟩ => rfl
      | ⟨1, _⟩ => rfl
      | ⟨2, _⟩ => rfl
    refine (dif_pos m0).trans ((congrArg (fun y => min (idx y).toInt.toNat (100000 - 1)) e).trans ?_)
    show min (idx (ix3 (z 0) (z 1) 0)).toInt.toNat (100000 - 1) = _
    have := (word_facts h).2.2.2
    omega
  have rest : dn.start z idx 1 = 0 := dif_neg (show (1 : Fin 2) ∉ dn.startIndexMap by decide)
  have flat : dn.offCoord z 0 = 0 := GatherDims.offCoord_eq_zero _ _ _ (fun h => ((GatherDims.mem_sKept _ _).mp h).1 (List.mem_singleton.mpr rfl))
  have col : dn.offCoord z 1 = (z 2).val := dif_pos (show (1 : Fin 2) ∈ dn.sKept by decide)
  unfold Host.gather
  refine congrArg tab (funext fun a => Fin.ext ?_)
  show dn.start z idx a + dn.batchCoord z a + dn.offCoord z a = _
  match a with
  | ⟨0, _⟩ =>
    show dn.start z idx 0 + dn.batchCoord z 0 + dn.offCoord z 0 = (idx (ix3 (z 0) (z 1) 0)).toNat % 100000
    have := hb 0
    omega
  | ⟨1, _⟩ =>
    show dn.start z idx 1 + dn.batchCoord z 1 + dn.offCoord z 1 = (z 2).val
    have := hb 1
    omega

/-! ## Broadcasts of the tokens -/

/-- The tokens as a rank-three array of one-word rows. -/
theorem widen_apply {w : Nat} (tok : IVec S4096x50 w) (y : S4096x50x1.Idx) :
    broadcastInDim S4096x50x1 ![0, 1] bcast_S4096x50_S4096x50x1_0_1 tok y = tok (ix2 (y 0) (y 1)) :=
  broadcastInDim_apply ![0, 1] _ tok y _ fun a => by
    match a with
    | ⟨0, _⟩ => rfl
    | ⟨1, _⟩ => rfl

/-! ## The reference's steps, where every token names a row -/

section Steps

variable (tok : IVec S4096x50 32) (h : ∀ i, (tok i).toNat < 100000)

include h

/-- No token is negative, so none is wrapped. -/
theorem no_wrap (other : IVec S4096x50 32) :
    select (cmpi .slt tok (broadcastInDim S4096x50 ![] bcast_S_S4096x50 (constantI S_ 32 0#32))) other tok = tok := by
  funext i
  show Scalar.select (IntOp.cmpi .slt (tok i) 0#32) (other i) (tok i) = tok i
  rw [(word_facts (h i)).1]
  rfl

/-- No index is out of the table, so the mask that keeps the gathered rows is all ones. -/
theorem mask_one :
    Host.reduce IntOp.andi
        (andi
          (cmpi .sge (broadcastInDim S4096x50x1 ![0, 1] bcast_S4096x50_S4096x50x1_0_1 tok)
            (broadcastInDim S4096x50x1 ![] bcast_S_S4096x50x1 (constantI S_ 32 0#32)))
          (cmpi .sle (broadcastInDim S4096x50x1 ![0, 1] bcast_S4096x50_S4096x50x1_0_1 tok)
            (broadcastInDim S4096x50x1 ![0, 1, 2] bcast_S1x1x1_S4096x50x1_0_1_2
              (broadcastInDim S1x1x1 ![2] bcast_S1_S1x1x1_2 (constantI S1 32 99999#32)))))
        (constantI S_ 1 1#1) reducesTo_S4096x50x1_S4096x50_d2 h_S_
      = fun _ => 1#1 := by
  funext j
  refine Host.reduce_andi_one _ _ _ _ j rfl fun y => ?_
  show IntOp.andi (IntOp.cmpi .sge (broadcastInDim S4096x50x1 ![0, 1] bcast_S4096x50_S4096x50x1_0_1 tok y) 0#32)
    (IntOp.cmpi .sle (broadcastInDim S4096x50x1 ![0, 1] bcast_S4096x50_S4096x50x1_0_1 tok y) 99999#32) = 1#1
  have hy := word_facts (h (ix2 (y 0) (y 1)))
  rw [widen_apply, hy.2.1, hy.2.2.1]
  rfl

/-- The rows gathered, kept by a mask of ones: at `(i, j, k)`, column `k` of the row that token `(i, j)` names. -/
theorem rows_eq {α : Type} (tab : S100000x128.Idx → α) (fill : S4096x50x128.Idx → α) :
    select (broadcastInDim S4096x50x128 ![0, 1] bcast_S4096x50_S4096x50x128_0_1 (fun _ : S4096x50.Idx => 1#1))
        (Host.gather gather_S100000x128_S4096x50x1_S4096x50x128_2_0_n_n_0_2_1128 tab
          (broadcastInDim S4096x50x1 ![0, 1] bcast_S4096x50_S4096x50x1_0_1 tok))
        fill
      = fun z => tab (ix2 (Fin.ofNat 100000 (tok (ix2 (z 0) (z 1))).toNat) (z 2)) := by
  funext z
  have e : broadcastInDim S4096x50x1 ![0, 1] bcast_S4096x50_S4096x50x1_0_1 tok (ix3 (z 0) (z 1) 0) = tok (ix2 (z 0) (z 1)) := widen_apply tok _
  show Scalar.select (1#1) (Host.gather gather_S100000x128_S4096x50x1_S4096x50x128_2_0_n_n_0_2_1128 tab _ z) (fill z) = _
  refine (show Scalar.select (1#1) _ (fill z) = _ from if_pos rfl).trans ((gather_apply tab _ z ?_).trans ?_)
  · exact (congrArg BitVec.toNat e).trans_lt (h _)
  · exact congrArg (fun w : BitVec 32 => tab (ix2 (Fin.ofNat 100000 w.toNat) (z 2))) e

end Steps

/-! ## The run -/

open Idealize.ShloMosaic.TcCoe Idealize.SL.Sem

variable {F : FTy → Type} [FloatOps F]

/-- Every execution ends, with the arguments as they were and every counter at zero. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run m ρ)

/-- Where every token names a row of the table, every execution ends with the rows the tokens name and the arguments as they were. -/
theorem run_value (m : (ℓ : Loc nD τ sig) → Buf (Elt F) ℓ) (ρ : Dev nD → PrngReg)
    (h : ∀ (c : Dev nD) (i : S4096x50.Idx), ((m ((c.tc : Thread nD τ).loc main_arg0) : IVec S4096x50 32) i).toNat < 100000) :
    θ_run defs (onTc (τ := τ) (main (F := F))) ⟨m, fun _ => 0, ρ⟩ fun r => ∀ c : Dev nD,
      (r.2.mem ((c.tc : Thread nD τ).loc main_v0) = fun z : S4096x50x128.Idx =>
        (m ((c.tc : Thread nD τ).loc main_arg1) : FVec F S100000x128 .f32)
          (ix2 (Fin.ofNat 100000 ((m ((c.tc : Thread nD τ).loc main_arg0) : IVec S4096x50 32) (ix2 (z 0) (z 1))).toNat) (z 2)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ e c => ⟨(e c).1.trans (by
      rw [no_wrap _ (h c), mask_one _ (h c)]
      exact rows_eq _ (h c) _ _), (e c).2⟩) (Value.run m ρ)

end Cert.ReferenceIdeal.Lookup

end
-- ==== Proof.Vocab.lean ====
/-
  The precondition read element by element: every token, as an unsigned word, is below the number of the table's rows.
-/
module

public import proofs.«01_k».proof.Pre_tokens_in_vocab
public import proofs.«01_k».proof.Proof.Gen.Pre_tokens_in_vocab
public import Idealize.ShloMosaic.Lib.ReduceAll

@[expose] public section

noncomputable section

namespace Cert.Pre_tokens_in_vocab.Lookup

open Cert.Pre_tokens_in_vocab Cert.Pre_tokens_in_vocab.Gen Idealize.ShloMosaic

/-- A word that is not negative and is below 100000, both read signed, is below 100000 read unsigned. -/
theorem lt_of_word {v : BitVec 32} (e : IntOp.andi (IntOp.cmpi .sge v 0#32) (IntOp.cmpi .slt v 100000#32) = 1#1) : v.toNat < 100000 := by
  have both : ∀ p q : Bool, IntOp.andi (BitVec.ofBool p) (BitVec.ofBool q) = 1#1 → p = true ∧ q = true := by decide
  obtain ⟨h0, h1⟩ := both _ _ e
  simp only [BitVec.sle_eq_decide, BitVec.slt_eq_decide, decide_eq_true_eq, BitVec.toInt_eq_toNat_cond, BitVec.toNat_ofNat, Nat.reducePow, Nat.reduceMod] at h0 h1
  omega

/-- Where the precondition holds, every token names a row of the table. -/
theorem token_lt {F : FTy → Type} [FloatOps F] {tok : IVec S4096x50 32} {tab : FVec F S100000x128 .f32} (h : fn tok tab = fun _ => 1#1)
    (i : S4096x50.Idx) : (tok i).toNat < 100000 := by
  have : Subsingleton S_.Idx := ⟨fun _ _ => funext fun a => a.elim0⟩
  exact lt_of_word (Host.reduce_andi_all _ _ _ _ (fun a => a.elim0) (congrFun h _) i)

end Cert.Pre_tokens_in_vocab.Lookup

end
-- ==== Proof.lean ====
/-
  The certificate's claims, from the kernel's run (proved once for the program and once for its idealization), the
  reference's run and the precondition read element by element.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tokens_in_vocab
public import proofs.«01_k».proof.Proof.Launch
public import proofs.«01_k».proof.Proof.Ideal.Launch
public import proofs.«01_k».proof.Proof.Reference
public import proofs.«01_k».proof.Proof.Vocab
public import Idealize.ShloMosaic.Adequacy
public import Idealize.ShloMosaic.Init

@[expose] public section

noncomputable section

namespace Cert.Proof

open Idealize.ShloMosaic Idealize.SL.Sem

/-- The precondition gives the program's run what it asks of the tokens. -/
theorem vocab {m : (ℓ : Loc Cert.Kernel.nD Cert.Kernel.τ Cert.Kernel.sig) → Buf (Elt Bits) ℓ} (h : Cert.Pre_Kernel m) :
    Cert.Kernel.Lookup.InVocab m :=
  fun d i => Cert.Pre_tokens_in_vocab.Lookup.token_lt (h d) i

/-- The same of the idealization. -/
theorem vocab_ideal {m : (ℓ : Loc Cert.KernelIdeal.nD Cert.KernelIdeal.τ Cert.KernelIdeal.sig) → Buf (Elt Ideal) ℓ} (h : Cert.Pre_KernelIdeal m) :
    Cert.KernelIdeal.Lookup.InVocab m :=
  fun d i => Cert.Pre_tokens_in_vocab.Lookup.token_lt (h d) i

theorem frame_p : Cert.quiescent_Kernel := fun m g h =>
  (θ_run Cert.Kernel.defs _ _).mono (fun _ e => ⟨fun c => (e.1 c).2, e.2⟩) (Cert.Kernel.Lookup.run_main m g (vocab h))

theorem frame_pi : Cert.quiescent_KernelIdeal := fun m g h =>
  (θ_run Cert.KernelIdeal.defs _ _).mono (fun _ e => ⟨fun c => (e.1 c).2, e.2⟩) (Cert.KernelIdeal.Lookup.run_main m g (vocab_ideal h))

theorem frame_ri : Cert.quiescent_ReferenceIdeal := fun m g _ => Cert.ReferenceIdeal.Lookup.run_frame m g

theorem frame_ri_pre : Cert.quiescent_ReferenceIdeal_pre_tokens_in_vocab := fun m g _ => Cert.ReferenceIdeal.Lookup.run_frame m g

/-- Both end with the rows the tokens name. -/
theorem value : Cert.algebraic_KernelIdeal_ReferenceIdeal := fun m g m' g' h agree =>
  ⟨fun c => Cert.KernelIdeal.Lookup.res m c,
    (θ_run Cert.KernelIdeal.defs _ _).mono (fun _ e => e.1) (Cert.KernelIdeal.Lookup.run_main m g (vocab_ideal h)),
    (θ_run Cert.ReferenceIdeal.defs _ _).mono
      (fun _ e c => ⟨(e c).1.trans (by
        rw [(agree c).1, (agree c).2]
        exact funext fun z => (Cert.KernelIdeal.Lookup.res_apply m c z).symm), (e c).2⟩)
      (Cert.ReferenceIdeal.Lookup.run_value m' g' fun c i => by
        rw [(agree c).1]
        exact vocab_ideal h c i)⟩

theorem claim : Cert.Claim := ⟨Cert.Kernel.Gen.facts, Cert.KernelIdeal.Gen.facts, Cert.ReferenceIdeal.Gen.facts, Cert.Pre_tokens_in_vocab.Gen.facts,
  frame_p, frame_pi, frame_ri, frame_ri_pre, trivial, value⟩

end Cert.Proof

end
